-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 768]⟩ ⟨2, ![1024, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S2x256x768 .f32) (main_arg1 : FVec F S768x256 .f32) (main_arg2 : FVec F S768x256 .f32) (main_arg3 : FVec F S768x256 .f32) (main_arg4 : FVec F S256x768 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Pre_finite_ReferenceIdeal.lean ====
abbrev S2x256x768 : Shape := ⟨3, ![2, 256, 768]⟩
abbrev S768x1024 : Shape := ⟨2, ![768, 1024]⟩
abbrev S1024x768 : Shape := ⟨2, ![1024, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x1024 : S_.BroadcastsInDim S768x1024 (![] : Fin 0 → Fin S768x1024.rank)
  reducesTo_S768x1024_S_d0_1 : S768x1024.ReducesTo [0, 1] S_

variable [Facts]

def fn {F : FTy → Type} [FloatOps F] (main_arg0 : FVec F S2x256x768 .f32) (main_arg1 : FVec F S768x1024 .f32) (main_arg2 : FVec F S768x1024 .f32) (main_arg3 : FVec F S768x1024 .f32) (main_arg4 : FVec F S1024x768 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x1024 .f32 := Host.absf main_arg1
  let main_cst_0 : FVec F S_ .f32 := constant S_ .f32 0x7F800000#32
  let main_v5 : FVec F S768x1024 .f32 := broadcastInDim S768x1024 ![] bcast_S_S768x1024 main_cst_0
  let main_v6 : IVec S768x1024 1 := cmpf .olt main_v4 main_v5
  let main_c_1 : IVec S_ 1 := constantI S_ 1 1#1
  let main_v7 : IVec S_ 1 := (fun x v => Host.reduce IntOp.andi x v reducesTo_S768x1024_S_d0_1 h_S_) main_v6 main_c_1
  let main_v8 : IVec S_ 1 := andi main_v3 main_v7
  let main_v9 : FVec F S768x1024 .f32 := Host.absf main_arg2
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  main_v13
-- ==== Kernel.lean ====
abbrev S2x256x768 : Shape := ⟨3, ![2, 256, 768]⟩
abbrev S768x256 : Shape := ⟨2, ![768, 256]⟩
abbrev S256x768 : Shape := ⟨2, ![256, 768]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S1x256x1x64 : Shape := ⟨4, ![1, 256, 1, 64]⟩
abbrev S2x256x4x64 : Shape := ⟨4, ![2, 256, 4, 64]⟩
abbrev S512x256 : Shape := ⟨2, ![512, 256]⟩
abbrev S8x64x768 : Shape := ⟨3, ![8, 64, 768]⟩
abbrev S2x8x64x768 : Shape := ⟨4, ![2, 8, 64, 768]⟩
abbrev S2x8 : Shape := ⟨2, ![2, 8]⟩
abbrev S512x768 : Shape := ⟨2, ![512, 768]⟩
abbrev S512x255 : Shape := ⟨2, ![512, 255]⟩
abbrev S512x1 : Shape := ⟨2, ![512, 1]⟩
abbrev S256x256 : Shape := ⟨2, ![256, 256]⟩
abbrev S64x256 : Shape := ⟨2, ![64, 256]⟩
abbrev S64x768 : Shape := ⟨2, ![64, 768]⟩
abbrev S1x64x768 : Shape := ⟨3, ![1, 64, 768]⟩
abbrev S1x1 : Shape := ⟨2, ![1, 1]⟩
abbrev S1x1x64x768 : Shape := ⟨4, ![1, 1, 64, 768]⟩

abbrev nBuf : Space → Nat
  | .hbm => 49
  | .vmem => 10
  | .smem => 0
  | _ => 0

abbrev bufTy : (tb : Table) → Fin (tcTables nBuf tb) → BufTy
  | .hbm, ⟨0, _⟩ => ⟨S2x256x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S256, .i32⟩
  | .hbm, ⟨23, _⟩ => ⟨S256x1, .i32⟩
  | .hbm, ⟨24, _⟩ => ⟨S1x32, .f32⟩
  | .hbm, ⟨25, _⟩ => ⟨S256x1, .f32⟩
  | .hbm, ⟨26, _⟩ => ⟨S256x32, .f32⟩
  | .hbm, ⟨27, _⟩ => ⟨S256x32, .f32⟩
  | .hbm, ⟨28, _⟩ => ⟨S256x32, .f32⟩
  | .hbm, ⟨29, _⟩ => ⟨S256x32, .f32⟩
  | .hbm, ⟨30, _⟩ => ⟨S256x32x2, .f32⟩
  | .hbm, ⟨31, _⟩ => ⟨S256x64, .f32⟩
  | .hbm, ⟨32, _⟩ => ⟨S256x32, .f32⟩
  | .hbm, ⟨33, _⟩ => ⟨S256x32x2, .f32⟩
  | .hbm, ⟨34, _⟩ => ⟨S256x64, .f32⟩
  | .hbm, ⟨35, _⟩ => ⟨S1x256x1x64, .f32⟩
  | .hbm, ⟨36, _⟩ => ⟨S2x256x4x64, .f32⟩
  | .hbm, ⟨37, _⟩ => ⟨S512x256, .f32⟩
  | .hbm, ⟨38, _⟩ => ⟨S1x256x1x64, .f32⟩
  | .hbm, ⟨39, _⟩ => ⟨S2x256x4x64, .f32⟩
  | .hbm, ⟨40, _⟩ => ⟨S512x256, .f32⟩
  | .hbm, ⟨41, _⟩ => ⟨S2x256x768, .bf16⟩
  | .hbm, ⟨42, _⟩ => ⟨S768x256, .bf16⟩
  | .hbm, ⟨43, _⟩ => ⟨S768x256, .bf16⟩
  | .hbm, ⟨44, _⟩ => ⟨S768x256, .bf16⟩
  | .hbm, ⟨45, _⟩ => ⟨S256x768, .bf16⟩
  | .hbm, ⟨46, _⟩ => ⟨S512x256, .bf16⟩
  | .hbm, ⟨47, _⟩ => ⟨S512x256, .bf16⟩
  | .hbm, ⟨48, _⟩ => ⟨S2x256x768, .f32⟩
  | .local _ .vmem, ⟨0, _⟩ => ⟨S2x256x768, .bf16⟩
  | .local _ .vmem, ⟨1, _⟩ => ⟨S768x256, .bf16⟩
  | .local _ .vmem, ⟨2, _⟩ => ⟨S768x256, .bf16⟩
  | .local _ .vmem, ⟨3, _⟩ => ⟨S768x256, .bf16⟩
  | .local _ .vmem, ⟨4, _⟩ => ⟨S256x768, .bf16⟩
  | .local _ .vmem, ⟨5, _⟩ => ⟨S512x256, .bf16⟩
  | .local _ .vmem, ⟨6, _⟩ => ⟨S512x256, .bf16⟩
  | .local _ .vmem, ⟨7, _⟩ => ⟨S2x256x768, .f32⟩
  | .local _ .vmem, ⟨8, _⟩ => ⟨S8x64x768, .bf16⟩
  | .local _ .vmem, ⟨9, _⟩ => ⟨S2x8x64x768, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_55 : BitVec 32 := 1#32
  let v123 : BitVec 32 := Scalar.muli v3 c1_i32_55
  let v124 : BitVec 32 := Scalar.addi c0_i32_56 v123
  v124.toNat
def k0_dev4 (d0 : Dev nD) : Nat :=
  let c0_i32_74 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_73 : BitVec 32 := 1#32
  let v141 : BitVec 32 := Scalar.muli v4 c1_i32_73
  let v142 : BitVec 32 := Scalar.addi c0_i32_74 v141
  v142.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_91 : BitVec 32 := 1#32
  let v159 : BitVec 32 := Scalar.muli v3 c1_i32_91
  let v160 : BitVec 32 := Scalar.addi c0_i32_92 v159
  v160.toNat
def k0_dev6 (d0 : Dev nD) : Nat :=
  let c0_i32_110 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_109 : BitVec 32 := 1#32
  let v177 : BitVec 32 := Scalar.muli v4 c1_i32_109
  let v178 : BitVec 32 := Scalar.addi c0_i32_110 v177
  v178.toNat
def k0_dev7 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_139 : BitVec 32 := 1#32
  let v237 : BitVec 32 := Scalar.muli v3 c1_i32_139
  let v238 : BitVec 32 := Scalar.addi c0_i32_140 v237
  v238.toNat
def k0_dev8 (d0 : Dev nD) : Nat :=
  let c0_i32_157 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_156 : BitVec 32 := 1#32
  let v255 : BitVec 32 := Scalar.muli v4 c1_i32_156
  let v256 : BitVec 32 := Scalar.addi c0_i32_157 v255
  v256.toNat
def k0_dev9 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_173 : BitVec 32 := 1#32
  let v273 : BitVec 32 := Scalar.muli v3 c1_i32_173
  let v274 : BitVec 32 := Scalar.addi c0_i32_174 v273
  v274.toNat
def k0_dev10 (d0 : Dev nD) : Nat :=
  let c0_i32_191 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_190 : BitVec 32 := 1#32
  let v291 : BitVec 32 := Scalar.muli v4 c1_i32_190
  let v292 : BitVec 32 := Scalar.addi c0_i32_191 v291
  v292.toNat
def k0_dev11 (d0 : Dev nD) : Nat :=
  let c0_i32_239 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_238 : BitVec 32 := 1#32
  let v323 : BitVec 32 := Scalar.muli v4 c1_i32_238
  let v324 : BitVec 32 := Scalar.addi c0_i32_239 v323
  v324.toNat
def k0_dev12 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_286 : BitVec 32 := 1#32
  let v355 : BitVec 32 := Scalar.muli v3 c1_i32_286
  let v356 : BitVec 32 := Scalar.addi c0_i32_287 v355
  v356.toNat
def k0_dev13 (d0 : Dev nD) : Nat :=
  let c0_i32_335 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_334 : BitVec 32 := 1#32
  let v387 : BitVec 32 := Scalar.muli v4 c1_i32_334
  let v388 : BitVec 32 := Scalar.addi c0_i32_335 v387
  v388.toNat
def k0_dev14 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_382 : BitVec 32 := 1#32
  let v419 : BitVec 32 := Scalar.muli v3 c1_i32_382
  let v420 : BitVec 32 := Scalar.addi c0_i32_383 v419
  v420.toNat
def k0_dev15 (d0 : Dev nD) : Nat :=
  let c0_i32_431 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_430 : BitVec 32 := 1#32
  let v451 : BitVec 32 := Scalar.muli v4 c1_i32_430
  let v452 : BitVec 32 := Scalar.addi c0_i32_431 v451
  v452.toNat
def k0_dev16 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_478 : BitVec 32 := 1#32
  let v483 : BitVec 32 := Scalar.muli v3 c1_i32_478
  let v484 : BitVec 32 := Scalar.addi c0_i32_479 v483
  v484.toNat
def k0_dev17 (d0 : Dev nD) : Nat :=
  let c0_i32_527 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_526 : BitVec 32 := 1#32
  let v515 : BitVec 32 := Scalar.muli v4 c1_i32_526
  let v516 : BitVec 32 := Scalar.addi c0_i32_527 v515
  v516.toNat
def k0_dev18 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_574 : BitVec 32 := 1#32
  let v547 : BitVec 32 := Scalar.muli v3 c1_i32_574
  let v548 : BitVec 32 := Scalar.addi c0_i32_575 v547
  v548.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x256x768 : Shape := ⟨3, ![2, 256, 768]⟩
abbrev S768x1024 : Shape := ⟨2, ![768, 1024]⟩
abbrev S1024x768 : Shape := ⟨2, ![1024, 768]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S2x256x1024 : Shape := ⟨3, ![2, 256, 1024]⟩
abbrev S2x256x16x64 : Shape := ⟨4, ![2, 256, 16, 64]⟩
abbrev S2x256x16x32x2 : Shape := ⟨5, ![2, 256, 16, 32, 2]⟩
abbrev S2x256x16x32x1 : Shape := ⟨5, ![2, 256, 16, 32, 1]⟩
abbrev S2x256x16x32 : Shape := ⟨4, ![2, 256, 16, 32]⟩
abbrev S1x256x1x64 : Shape := ⟨4, ![1, 256, 1, 64]⟩
abbrev S2x16x256x256 : Shape := ⟨4, ![2, 16, 256, 256]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 94
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S1024x768, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S256, .i32⟩
  | .hbm, ⟨23, _⟩ => ⟨S256x1, .i32⟩
  | .hbm, ⟨24, _⟩ => ⟨S1x32, .f32⟩
  | .hbm, ⟨25, _⟩ => ⟨S256x1, .f32⟩
  | .hbm, ⟨26, _⟩ => ⟨S256x32, .f32⟩
  | .hbm, ⟨27, _⟩ => ⟨S256x32, .f32⟩
  | .hbm, ⟨28, _⟩ => ⟨S256x32, .f32⟩
  | .hbm, ⟨29, _⟩ => ⟨S256x32, .f32⟩
  | .hbm, ⟨30, _⟩ => ⟨S256x32x2, .f32⟩
  | .hbm, ⟨31, _⟩ => ⟨S256x64, .f32⟩
  | .hbm, ⟨32, _⟩ => ⟨S256x32, .f32⟩
  | .hbm, ⟨33, _⟩ => ⟨S256x32x2, .f32⟩
  | .hbm, ⟨34, _⟩ => ⟨S256x64, .f32⟩
  | .hbm, ⟨35, _⟩ => ⟨S2x256x1024, .f32⟩
  | .hbm, ⟨36, _⟩ => ⟨S2x256x16x64, .f32⟩
  | .hbm, ⟨37, _⟩ => ⟨S2x256x16x32x2, .f32⟩
  | .hbm, ⟨38, _⟩ => ⟨S2x256x16x32x1, .f32⟩
  | .hbm, ⟨39, _⟩ => ⟨S2x256x16x32, .f32⟩
  | .hbm, ⟨40, _⟩ => ⟨S2x256x16x32, .f32⟩
  | .hbm, ⟨41, _⟩ => ⟨S2x256x16x32x1, .f32⟩
  | .hbm, ⟨42, _⟩ => ⟨S2x256x16x32, .f32⟩
  | .hbm, ⟨43, _⟩ => ⟨S2x256x16x32x1, .f32⟩
  | .hbm, ⟨44, _⟩ => ⟨S2x256x16x32x1, .f32⟩
  | .hbm, ⟨45, _⟩ => ⟨S2x256x16x32x2, .f32⟩
  | .hbm, ⟨46, _⟩ => ⟨S2x256x16x64, .f32⟩
  | .hbm, ⟨47, _⟩ => ⟨S1x256x1x64, .f32⟩
  | .hbm, ⟨48, _⟩ => ⟨S2x256x16x64, .f32⟩
  | .hbm, ⟨49, _⟩ => ⟨S2x256x16x64, .f32⟩
  | .hbm, ⟨50, _⟩ => ⟨S1x256x1x64, .f32⟩
  | .hbm, ⟨51, _⟩ => ⟨S2x256x16x64, .f32⟩
  | .hbm, ⟨52, _⟩ => ⟨S2x256x16x64, .f32⟩
  | .hbm, ⟨53, _⟩ => ⟨S2x256x16x64, .f32⟩
  | .hbm, ⟨54, _⟩ => ⟨S2x256x1024, .f32⟩
  | .hbm, ⟨55, _⟩ => ⟨S2x256x16x64, .f32⟩
  | .hbm, ⟨56, _⟩ => ⟨S2x256x16x32x2, .f32⟩
  | .hbm, ⟨57, _⟩ => ⟨S2x256x16x32x1, .f32⟩
  | .hbm, ⟨58, _⟩ => ⟨S2x256x16x32, .f32⟩
  | .hbm, ⟨59, _⟩ => ⟨S2x256x16x32, .f32⟩
  | .hbm, ⟨60, _⟩ => ⟨S2x256x16x32x1, .f32⟩
  | .hbm, ⟨61, _⟩ => ⟨S2x256x16x32, .f32⟩
  | .hbm, ⟨62, _⟩ => ⟨S2x256x16x32x1, .f32⟩
  | .hbm, ⟨63, _⟩ => ⟨S2x256x16x32x1, .f32⟩
  | .hbm, ⟨64, _⟩ => ⟨S2x256x16x32x2, .f32⟩
  | .hbm, ⟨65, _⟩ => ⟨S2x256x16x64, .f32⟩
  | .hbm, ⟨66, _⟩ => ⟨S1x256x1x64, .f32⟩
  | .hbm, ⟨67, _⟩ => ⟨S2x256x16x64, .f32⟩
  | .hbm, ⟨68, _⟩ => ⟨S2x256x16x64, .f32⟩
  | .hbm, ⟨69, _⟩ => ⟨S1x256x1x64, .f32⟩
  | .hbm, ⟨70, _⟩ => ⟨S2x256x16x64, .f32⟩
  | .hbm, ⟨71, _⟩ => ⟨S2x256x16x64, .f32⟩
  | .hbm, ⟨72, _⟩ => ⟨S2x256x16x64, .f32⟩
  | .hbm, ⟨73, _⟩ => ⟨S2x256x1024, .f32⟩
  | .hbm, ⟨74, _⟩ => ⟨S2x256x16x64, .f32⟩
  | .hbm, ⟨75, _⟩ => ⟨S2x16x256x256, .f32⟩
  | .hbm, ⟨76, _⟩ => ⟨S_, .f32⟩
  | .hbm, ⟨77, _⟩ => ⟨S2x16x256x256, .f32⟩
  | .hbm, ⟨78, _⟩ => ⟨S2x16x256x256, .f32⟩
  | .hbm, ⟨79, _⟩ => ⟨S_, .f32⟩
  | .hbm, ⟨80, _⟩ => ⟨S2x16x256, .f32⟩
  | .hbm, ⟨81, _⟩ => ⟨S2x16x256x1, .f32⟩
  | .hbm, ⟨82, _⟩ => ⟨S2x16x256x256, .f32⟩
  | .hbm, ⟨83, _⟩ => ⟨S2x16x256x256, .f32⟩
  | .hbm, ⟨84, _⟩ => ⟨S2x16x256x256, .f32⟩
  | .hbm, ⟨85, _⟩ => ⟨S_, .f32⟩
  | .hbm, ⟨86, _⟩ => ⟨S2x16x256, .f32⟩
  | .hbm, ⟨87, _⟩ => ⟨S2x16x256x1, .f32⟩
  | .hbm, ⟨88, _⟩ => ⟨S2x16x256x256, .f32⟩
  | .hbm, ⟨89, _⟩ => ⟨S2x16x256x256, .f32⟩
  | .hbm, ⟨90, _⟩ => ⟨S2x16x64x256, .f32⟩
  | .hbm, ⟨91, _⟩ => ⟨S2x256x16x64, .f32⟩
  | .hbm, ⟨92, _⟩ => ⟨S2x256x1024, .f32⟩
  | .hbm, ⟨93, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Values.lean ====
/-
  WHAT THE CHUNKS HOLD, as functions of what a device's staging buffers hold, over any float values.
  Device by device: the queries and keys (rotated), the values, the attention of one (batch, head) pair, the
  concatenation of a batch's four heads, and — per chunk of 64 rows — the product with the device's rows of the
  output weights.
-/
module

public import proofs.«01_k».proof.Proof.Gen.KernelIdeal.Skeleton

@[expose] public section

noncomputable section

namespace Cert.KernelIdeal.Talk

open Idealize.ShloMosaic Idealize.SL.Sem
open Cert.KernelIdeal Cert.KernelIdeal.Gen

variable {F : FTy → Type} [FloatOps F]

/-- What the kernel reads of its device: the activations, the device's columns of the three projections, its rows of
    the output weights, and the rotation's two tables. -/
structure Ins (F : FTy → Type) where
  x : Vec F S2x256x768 .bf16
  wq : Vec F S768x256 .bf16
  wk : Vec F S768x256 .bf16
  wv : Vec F S768x256 .bf16
  wo : Vec F S256x768 .bf16
  cos : Vec F S512x256 .bf16
  sin : Vec F S512x256 .bf16

variable (i : Ins F)

/-- The column numbers, from which the rotation tells even columns from odd ones. -/
def cols : IVec S512x256 32 := iota .tc S512x256 32 [1] iota_S512x256_d1_w32

/-- The rotated and scaled queries, -/
def qry : FVec F S512x256 .bf16 := k0_pay9 (k0_pay3 i.x i.wq) (k0_pay6 i.cos) (k0_pay7 i.sin) cols 2#32
/-- the rotated keys -/
def key : FVec F S512x256 .bf16 := k0_pay10 (k0_pay4 i.x i.wk) (k0_pay6 i.cos) (k0_pay7 i.sin) cols 2#32
/-- and the values. -/
def val : FVec F S512x256 .f32 := k0_pay5 i.x i.wv

theorem slices_head : ∀ (b : Fin 2) (h : Fin 4), S512x256.Slices ![256 * b.val, 64 * h.val] S256x64 := by decide

/-- The exponentials of the scores of batch `b` and head `h`: row `p`, column `t` is exp (q_p · k_t). -/
def expo (b : Fin 2) (h : Fin 4) : FVec F S256x256 .f32 :=
  exp (matmul dot_S256x64_S256x64_S256x256_1_1_0_0_n_n none
    (extractStridedSlice S256x64 ![256 * b.val, 64 * h.val] (qry i) (slices_head b h))
    (extractStridedSlice S256x64 ![256 * b.val, 64 * h.val] (key i) (slices_head b h))
    (constant S256x256 .f32 0x00000000#32))

/-- The attention of batch `b` and head `h`: (Σ_t e_pt v_t) / Σ_t e_pt. -/
def head (b : Fin 2) (h : Fin 4) : FVec F S256x64 .f32 :=
  divf (matmul dot_S256x256_S256x64_S256x64_1_0_0_1_n_n none (expo i b h)
      (extractStridedSlice S256x64 ![256 * b.val, 64 * h.val] (val i) (slices_head b h))
      (constant S256x64 .f32 0x00000000#32))
    (broadcastTo S256x64
      (shapeCast S256x1 (multiReduction .add [1] S256 (expo i b h) 0x00000000#32 reduces_S256x256_S256 (.inl rfl) rfl)
        shapeCasts_S256_S256x1)
      broadcasts_S256x1_S256x64)

/-- A batch's four heads side by side. -/
def ctx (b : Fin 2) : FVec F S256x256 .bf16 :=
  truncf .bf16 (concatenate S256x256 1
    [⟨S256x64, head i b 0⟩, ⟨S256x64, head i b 1⟩, ⟨S256x64, head i b 2⟩, ⟨S256x64, head i b 3⟩]
    concatenates_S256x64_S256x64_S256x64_S256x64_S256x256_d1) bitsLt_bf16_f32

theorem slices_rows : ∀ k : Fin 8, S256x256.Slices ![64 * (k.val % 4), 0] S64x256 := by decide

/-- The batch that chunk `k` belongs to. -/
def batch (k : Fin 8) : Fin 2 := ⟨k.val / 4, by omega⟩

/-- Chunk `k` of the device's share of the result: 64 rows of a batch's heads times the device's output weights. -/
def part (k : Fin 8) : FVec F S64x768 .bf16 :=
  truncf .bf16 (matmul dot_S64x256_S256x768_S64x768_1_0_0_1_n_n none
    (extractStridedSlice S64x256 ![64 * (k.val % 4), 0] (ctx i (batch k)) (slices_rows k))
    (shapeCast S256x768 i.wo shapeCasts_S256x768_S256x768)
    (constant S64x768 .f32 0x00000000#32)) bitsLt_bf16_f32

end Cert.KernelIdeal.Talk
-- ==== Proof.Talk.lean ====
/-
  THE KERNEL'S BODY, CHUNK BY CHUNK.

  The printed body spells its eight chunks out one after the other, three times: every chunk's partial product is made
  and sent (stage 0), every chunk's partner product is received, added and sent on (stage 1), every chunk's second
  partner sum is received, added and stored to the output. Here the same program is written with the chunk's number a
  variable, and `body_eq` says that it IS the printed one.
-/
module

public import proofs.«01_k».proof.Proof.Values
public import proofs.«01_k».proof.Proof.Gen.KernelIdeal.Launch
public import Idealize.ShloMosaic.Lib.Tactic

@[expose] public section

set_option maxRecDepth 65536

noncomputable section

namespace Cert.KernelIdeal.Talk

open Idealize.ShloMosaic Idealize.ShloMosaic.TcCoe Idealize.SL.Sem
open Cert.KernelIdeal Cert.KernelIdeal.Gen

variable {F : FTy → Type} [FloatOps F]

/-! ## Where a chunk lives -/

theorem inb_send : ∀ (k : Fin 8) (a : Fin 3), (![k.val, 0, 0] : Fin 3 → Nat) a + S1x64x768.size a ≤ S8x64x768.size a := by
  decide
theorem inb_recv : ∀ (st : Fin 2) (k : Fin 8) (a : Fin 4),
    (![st.val, k.val, 0, 0] : Fin 4 → Nat) a + S1x1x64x768.size a ≤ S2x8x64x768.size a := by decide
theorem inb_sem : ∀ (st : Fin 2) (k : Fin 8) (a : Fin 2),
    (![st.val, k.val] : Fin 2 → Nat) a + S1x1.size a ≤ S2x8.size a := by decide
theorem inb_out : ∀ (k : Fin 8) (a : Fin 3),
    (![k.val / 4, 64 * (k.val % 4), 0] : Fin 3 → Nat) a + S1x64x768.size a ≤ S2x256x768.size a := by decide

/-- Chunk `k` of the send buffer, -/
abbrev sRect (k : Fin 8) : Rect S8x64x768 := Rect.unit (s := S8x64x768) ![k.val, 0, 0] S1x64x768.size (inb_send k)
/-- chunk `k` of stage `st` of the receive buffer, -/
abbrev rRect (st : Fin 2) (k : Fin 8) : Rect S2x8x64x768 :=
  Rect.unit (s := S2x8x64x768) ![st.val, k.val, 0, 0] S1x1x64x768.size (inb_recv st k)
/-- and chunk `k`'s rows of the output. -/
abbrev oRect (k : Fin 8) : Rect S2x256x768 :=
  Rect.unit (s := S2x256x768) ![k.val / 4, 64 * (k.val % 4), 0] S1x64x768.size (inb_out k)

theorem packed_send : ∀ k : Fin 8, (sRect k).PackedRows (EltTy.packing .bf16) := by decide
theorem words_send : ∀ k : Fin 8, (sRect k).WholeWords (EltTy.packing .bf16) := by decide
theorem words_recv : ∀ (st : Fin 2) (k : Fin 8), (rRect st k).WholeWords (EltTy.packing .bf16) := by decide

abbrev sBuf : Memref sig .tc .vmem S8x64x768 .bf16 := Memref.whole cc0_scratch0
abbrev rBuf : Memref sig .tc .vmem S2x8x64x768 .bf16 := Memref.whole cc0_scratch1
abbrev oBuf : Memref sig .tc .vmem S2x256x768 .f32 := Memref.whole cc0_stg7_0

/-- The send buffer's chunk as a transfer names it, -/
abbrev sv (k : Fin 8) : Memref sig .tc .vmem S64x768 .bf16 :=
  (sBuf.slice (sRect k) (fun _ => rfl)).squeeze S64x768 squeezes_S1x64x768_S64x768
/-- and the receive buffer's. -/
abbrev rv (st : Fin 2) (k : Fin 8) : Memref sig .tc .vmem S64x768 .bf16 :=
  (rBuf.slice (rRect st k) (fun _ => rfl)).squeeze S64x768 squeezes_S1x1x64x768_S64x768

/-- The semaphore a device's own copy out of chunk `k` completes on, -/
abbrev sSem (st : Fin 2) (k : Fin 8) : DmaSem sig :=
  ((cc0_scratch2.slice (Rect.unit (s := S2x8) ![st.val, k.val] S1x1.size (inb_sem st k))).squeeze S_ squeezes_S1x1_S_).sem
/-- and the one that the partner's copy into it completes on. -/
abbrev rSem (st : Fin 2) (k : Fin 8) : DmaSem sig :=
  ((cc0_scratch3.slice (Rect.unit (s := S2x8) ![st.val, k.val] S1x1.size (inb_sem st k))).squeeze S_ squeezes_S1x1_S_).sem

/-- The barrier semaphore. -/
abbrev bSem : Sem sig := (SemArray.scalar (sig.barrier 0 rfl) : Sems sig S_).sem

/-! ## Whom a device talks to -/

/-- The two partners of a device, as the kernel computes them: the device's number with its lowest bit flipped, and
    three minus it. -/
abbrev peerW (b : Bool) (d : Dev nD) : Dev nD :=
  match b with
  | false => ⟨k0_dev1 d, k0_dev1_lt d⟩
  | true => ⟨k0_dev2 d, k0_dev2_lt d⟩

/-- Which of the two a chunk is exchanged with at a stage: even chunks first with the one, odd ones first with the
    other. -/
abbrev via (st : Fin 2) (k : Fin 8) : Bool := ((st.val + k.val) % 2).beq 1

/-! ## The program -/

abbrev PR (F : FTy → Type) (α : Type) := Prog (TpuEff nD τ sig (Elt F) Λ₀ .tc) α

/-- One run per chunk, in a list's order. -/
def each : List (Fin 8) → (Fin 8 → PR F PUnit) → PR F PUnit
  | [], _ => pure ⟨⟩
  | k :: l, f => f k >>= fun _ => each l f

abbrev chunks : List (Fin 8) := [0, 1, 2, 3, 4, 5, 6, 7]

/-- A load of the send buffer's chunk, -/
abbrev loadS (k : Fin 8) : PR F (Vec F S1x64x768 .bf16) :=
  Prog.lift (.load sBuf (sRect k).toLoadRect (View.loadsAt_vmem h_S1x64x768))
/-- of the receive buffer's, -/
abbrev loadR (st : Fin 2) (k : Fin 8) : PR F (Vec F S1x1x64x768 .bf16) :=
  Prog.lift (.load rBuf (rRect st k).toLoadRect (View.loadsAt_vmem h_S1x1x64x768))
/-- of the output's; -/
abbrev loadO (k : Fin 8) : PR F (Vec F S1x64x768 .f32) :=
  Prog.lift (.load oBuf (oRect k).toLoadRect (View.loadsAt_vmem h_S1x64x768))
/-- a store to the send buffer's chunk -/
abbrev storeS (k : Fin 8) (v : FVec F S64x768 .bf16) : PR F PUnit :=
  Prog.lift (.store sBuf (sRect k) (shapeCast S1x64x768 v shapeCasts_S64x768_S1x64x768) Finset.univ
    (View.stores_vmem h_S1x64x768 ((Memref.isWhole_whole cc0_scratch0).storeExact_slice rfl _ (packed_send k)) (fun _ => rfl)) (.inl rfl))
/-- and to the output's; -/
abbrev storeO (k : Fin 8) (v : FVec F S64x768 .f32) : PR F PUnit :=
  Prog.lift (.store oBuf (oRect k) (shapeCast S1x64x768 v shapeCasts_S64x768_S1x64x768) Finset.univ
    (View.stores_vmem_bits_univ h_S1x64x768 rfl) (.inl rfl))

/-- the copy of a chunk to a partner; -/
abbrev copy (d : Dev nD) (st : Fin 2) (k : Fin 8) : PR F PUnit :=
  Prog.lift (.enqueueDma (sv k) (.remote (Dev.tc (peerW (via st k) d)) (rv st k) (.dma (sSem st k))) (.dma (rSem st k))
    (((Memref.isWhole_whole cc0_scratch0).wordExact_slice rfl _ (words_send k)).reshape _ _)
    (((Memref.isWhole_whole cc0_scratch1).wordExact_slice rfl _ (words_recv st k)).reshape _ _)
    ⟨⟨rfl, Or.inl rfl⟩, trivial⟩)
/-- the wait for the device's own copy, -/
abbrev waitS (st : Fin 2) (k : Fin 8) : PR F PUnit :=
  Prog.lift (.waitDma2 (sSem st k) (rv st k) (sv k)
    (((Memref.isWhole_whole cc0_scratch1).wordExact_slice rfl _ (words_recv st k)).reshape _ _)
    (((Memref.isWhole_whole cc0_scratch0).wordExact_slice rfl _ (words_send k)).reshape _ _))
/-- and for the partner's. -/
abbrev waitR (st : Fin 2) (k : Fin 8) : PR F PUnit :=
  Prog.lift (.waitDma2 (rSem st k) (sv k) (rv st k)
    (((Memref.isWhole_whole cc0_scratch0).wordExact_slice rfl _ (words_send k)).reshape _ _)
    (((Memref.isWhole_whole cc0_scratch1).wordExact_slice rfl _ (words_recv st k)).reshape _ _))

/-- A whole input, as the body loads it. -/
abbrev loadWo : PR F (Vec F S256x768 .bf16) :=
  Prog.lift (.load (Memref.whole cc0_stg4_0 : Memref sig .tc .vmem S256x768 .bf16)
    (Rect.unit (s := S256x768) ![0, 0] S256x768.size inb_S256x768_S256x768_0_0).toLoadRect (View.loadsAt_vmem h_S256x768))

/-- A chunk's partial product is made, put into the send buffer and sent. -/
def make (d : Dev nD) (i : Vec F S256x768 .bf16 → Ins F) (k : Fin 8) : PR F PUnit := do
  let wo ← loadWo
  let _ ← loadS k
  storeS k (part (i wo) k)
  copy d 0 k

/-- A chunk's partner product is awaited and added to the device's own, the sum sent on. -/
def add (d : Dev nD) (k : Fin 8) : PR F PUnit := do
  waitS 0 k
  waitR 0 k
  let v ← loadS k
  let w ← loadR 0 k
  let _ ← loadS k
  storeS k (addf (shapeCast S64x768 v shapeCasts_S1x64x768_S64x768) (shapeCast S64x768 w shapeCasts_S1x1x64x768_S64x768))
  copy d 1 k

/-- A chunk's second partner sum is awaited and added to the device's own, the total stored to the output. -/
def finish (k : Fin 8) : PR F PUnit := do
  waitS 1 k
  waitR 1 k
  let v ← loadS k
  let w ← loadR 1 k
  let _ ← loadO k
  storeO k (addf (extf .f32 (shapeCast S64x768 v shapeCasts_S1x64x768_S64x768) bitsLt_bf16_f32)
    (extf .f32 (shapeCast S64x768 w shapeCasts_S1x1x64x768_S64x768) bitsLt_bf16_f32))

/-- The three rounds over the chunks. -/
def rounds (d : Dev nD) (i : Vec F S256x768 .bf16 → Ins F) : PR F PUnit := do
  each chunks (make d i)
  each chunks (add d)
  each chunks finish

/-- The body: both partners' barriers signalled, their two signals awaited, the inputs loaded, the three rounds. -/
def body : PR F PUnit := do
  let d ← Prog.lift .deviceId
  semSignalWord (peerW false d) bSem 1#32
  semSignalWord (peerW true d) bSem 1#32
  semWaitWord bSem 2#32
  let x : Vec F S2x256x768 .bf16 ← Prog.lift (.load (Memref.whole cc0_stg0_0) (Rect.unit (s := S2x256x768) ![0, 0, 0] S2x256x768.size inb_S2x256x768_S2x256x768_0_0_0).toLoadRect (View.loadsAt_vmem h_S2x256x768))
  let wq : Vec F S768x256 .bf16 ← Prog.lift (.load (Memref.whole cc0_stg1_0) (Rect.unit (s := S768x256) ![0, 0] S768x256.size inb_S768x256_S768x256_0_0).toLoadRect (View.loadsAt_vmem h_S768x256))
  let wk : Vec F S768x256 .bf16 ← Prog.lift (.load (Memref.whole cc0_stg2_0) (Rect.unit (s := S768x256) ![0, 0] S768x256.size inb_S768x256_S768x256_0_0).toLoadRect (View.loadsAt_vmem h_S768x256))
  let wv : Vec F S768x256 .bf16 ← Prog.lift (.load (Memref.whole cc0_stg3_0) (Rect.unit (s := S768x256) ![0, 0] S768x256.size inb_S768x256_S768x256_0_0).toLoadRect (View.loadsAt_vmem h_S768x256))
  let cos : Vec F S512x256 .bf16 ← Prog.lift (.load (Memref.whole cc0_stg5_0) (Rect.unit (s := S512x256) ![0, 0] S512x256.size inb_S512x256_S512x256_0_0).toLoadRect (View.loadsAt_vmem h_S512x256))
  let sin : Vec F S512x256 .bf16 ← Prog.lift (.load (Memref.whole cc0_stg6_0) (Rect.unit (s := S512x256) ![0, 0] S512x256.size inb_S512x256_S512x256_0_0).toLoadRect (View.loadsAt_vmem h_S512x256))
  rounds d (fun wo => ⟨x, wq, wk, wv, wo, cos, sin⟩)

/-- The printed body is this program. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      cc0_scratch2 cc0_scratch3 = body := by
  sl_kernel_rfl

end Cert.KernelIdeal.Talk
-- ==== Proof.Protocol.lean ====
/-
  THE PROTOCOL BETWEEN THE FOUR DEVICES, at a symbolic device `c`.

  A device has two partners, `peerW false c` and `peerW true c`; each is its partner's partner. A chunk `k` is exchanged
  at stage 0 with the partner `via 0 k` and at stage 1 with the other one.

    * The barrier semaphore of `c`: each partner signals one unit, `c` waits for two. The partner's unit hands over the
      partner's receive buffer, every chunk of every stage that is exchanged with that partner, and says that the
      semaphores which those copies complete on have been opened.
    * The receive semaphore of stage `st`, chunk `k`: the partner's copy credits it, `c` waits for it. The landing hands
      over that chunk of `c`'s receive buffer, holding what the partner sends at that stage: at stage 0 its partial
      product, at stage 1 its partial product plus its stage-0 partner's.
    * The send semaphore of stage `st`, chunk `k`: `c`'s own copy credits it, `c` waits for it. The completion hands back
      the chunk of the send buffer, holding what was sent.

  Every semaphore has this one round. The waits are in the order barrier, stage 0, stage 1: a device that waits at a
  barrier still owes every copy, one that waits at stage 0 still owes copies of stage 1, one that waits at stage 1 owes
  nothing.
-/
module

public import proofs.«01_k».proof.Proof.Talk
public import Idealize.ShloMosaic.Lib.Pipeline.Regions
public import Idealize.ShloMosaic.Lib.Pipeline.Kit
public import Idealize.ShloMosaic.Lib.Pipeline.BigSepL
public import Idealize.ShloMosaic.Lib.Rounds
public import Idealize.ShloMosaic.Lib.StableHlo
public import Idealize.ShloMosaic.Lib.Pipeline.RegionTalk
public import Idealize.ShloMosaic.Lib.Memref

@[expose] public section

set_option maxRecDepth 65536

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Partners -/

theorem peer_peer : ∀ (b : Bool) (c : Dev nD), peerW b (peerW b c) = c := by decide +kernel

theorem eq_peer (b : Bool) (c d : Dev nD) : d = peerW b c ↔ peerW b d = c := by
  constructor
  · rintro rfl; exact peer_peer b c
  · rintro rfl; exact (peer_peer b d).symm

/-! ## Cells -/

/-- A copy's two semaphores: `true` the receiver's, `false` the sender's; by stage and chunk. -/
abbrev Ch : Type := Bool × Fin 2 × Fin 8

/-- The scoped semaphores that the kernel talks on, -/
abbrev osem (j : Ch) : SemLoc sig := .dma (if j.1 then rSem j.2.1 j.2.2 else sSem j.2.1 j.2.2)

/-- and these with the barrier. -/
def csem : Option Ch → SemLoc sig
  | none => .reg bSem
  | some j => osem j

theorem osem_injective : Function.Injective osem := by
  have h : ∀ a b : Ch, (if a.1 then rSem a.2.1 a.2.2 else sSem a.2.1 a.2.2)
      = (if b.1 then rSem b.2.1 b.2.2 else sSem b.2.1 b.2.2) → a = b := by decide +kernel
  intro a b hab
  exact h a b (SemLoc.dma.inj hab)

theorem csem_injective : Function.Injective csem := by
  intro a b hab
  cases a <;> cases b
  · rfl
  · exact absurd hab (by intro h; cases h)
  · exact absurd hab (by intro h; cases h)
  · exact congrArg some (osem_injective hab)

/-- The cell of a device. -/
abbrev cell (c : Dev nD) (s : Option Ch) : GSem nD τ sig := ((c : Thread nD τ), csem s)

theorem cell_inj {c d : Dev nD} {s t : Option Ch} (h : cell c s = cell d t) : c = d ∧ s = t :=
  ⟨congrArg (fun g : GSem nD τ sig => g.1.1) h, csem_injective (congrArg Prod.snd h)⟩

theorem cell_eq {c d : Dev nD} {s t : Option Ch} : cell c s = cell d t ↔ c = d ∧ s = t :=
  ⟨cell_inj, fun h => by rw [h.1, h.2]⟩

abbrev barCell (c : Dev nD) : GSem nD τ sig := cell c none
abbrev sCell (st : Fin 2) (c : Dev nD) (k : Fin 8) : GSem nD τ sig := cell c (some (false, st, k))
abbrev rCell (st : Fin 2) (c : Dev nD) (k : Fin 8) : GSem nD τ sig := cell c (some (true, st, k))

/-- Which of a device's cells a semaphore is. -/
def which (s : SemLoc sig) : Option (Option Ch) := Function.partialInv csem s

theorem which_csem (s : Option Ch) : which (csem s) = some s := Function.partialInv_left csem_injective s

/-- The units that one chunk's copy is worth. -/
def N : ℕ := (rv 0 0).view.dmaCredit
theorem N_pos : 0 < N := View.dmaCredit_pos _ (by decide)
theorem credit_rv (st : Fin 2) (k : Fin 8) : (rv st k).view.dmaCredit = N := rfl
theorem credit_sv (k : Fin 8) : (sv k).view.dmaCredit = N := rfl

/-! ## What the buffers hold -/

/-- Device `c`'s own part of chunk `k` plus its stage-0 partner's: what it sends at stage 1. -/
def twice (I : Dev nD → Ins F) (c : Dev nD) (k : Fin 8) : FVec F S64x768 .bf16 :=
  addf (part (I c) k) (part (I (peerW (via 0 k) c)) k)

/-- What device `c` sends of chunk `k` at a stage. -/
def sent (I : Dev nD → Ins F) (st : Fin 2) (c : Dev nD) (k : Fin 8) : FVec F S64x768 .bf16 :=
  if st = 0 then part (I c) k else twice I c k

/-- What device `c` stores of chunk `k`. -/
def outv (I : Dev nD → Ins F) (c : Dev nD) (k : Fin 8) : FVec F S64x768 .f32 :=
  addf (extf .f32 (twice I c k) bitsLt_bf16_f32) (extf .f32 (twice I (peerW (via 1 k) c) k) bitsLt_bf16_f32)

/-- Chunk `k` of the send buffer at contents not said, -/
abbrev sAny (c : Dev nD) (k : Fin 8) : sProp 𝕄 :=
  iprop(∃ f, (sv k).view.loc (c : Thread nD τ) ↦[(sv k).view.set]{fullShare} f)
/-- at `X`; -/
abbrev sAt (c : Dev nD) (k : Fin 8) (X : FVec F S64x768 .bf16) : sProp 𝕄 :=
  iprop(∃ f, ⌜(sv k).view.read (Elt F) f = X⌝ ∗ ((sv k).view.loc (c : Thread nD τ) ↦[(sv k).view.set]{fullShare} f))
/-- chunk `k` of a stage of the receive buffer likewise, -/
abbrev rAny (st : Fin 2) (c : Dev nD) (k : Fin 8) : sProp 𝕄 :=
  iprop(∃ f, (rv st k).view.loc (c : Thread nD τ) ↦[(rv st k).view.set]{fullShare} f)
/-- at `X`. -/
abbrev rAt (st : Fin 2) (c : Dev nD) (k : Fin 8) (X : FVec F S64x768 .bf16) : sProp 𝕄 :=
  iprop(∃ f, ⌜(rv st k).view.read (Elt F) f = X⌝ ∗ ((rv st k).view.loc (c : Thread nD τ) ↦[(rv st k).view.set]{fullShare} f))

/-! ## The schedule -/

/-- What a signal at the barrier of `c` by its partner `b` hands over. -/
def barPay (c : Dev nD) (b : Bool) : sProp 𝕄 :=
  bigSep ((Finset.univ : Finset (Fin 2 × Fin 8)).filter fun j => via j.1 j.2 = b) fun j =>
    iprop(rAny j.1 (peerW b c) j.2 ∗ reached ER (rCell j.1 (peerW b c) j.2) 0)
/-- What a landing hands over. -/
def recvPay (I : Dev nD → Ins F) (st : Fin 2) (c : Dev nD) (k : Fin 8) : sProp 𝕄 :=
  rAt st c k (sent I st (peerW (via st k) c) k)
/-- What a completed send hands back. -/
def sendPay (I : Dev nD → Ins F) (st : Fin 2) (c : Dev nD) (k : Fin 8) : sProp 𝕄 := sAt c k (sent I st c k)

def payOf (I : Dev nD → Ins F) (c : Dev nD) (b : Bool) : Option (Option Ch) → sProp 𝕄
  | none => iprop(emp)
  | some none => barPay c b
  | some (some (true, st, k)) => recvPay I st c k
  | some (some (false, st, k)) => sendPay I st c k

def dutiesOf : Option (Option Ch) → Finset Bool
  | none => ∅
  | some none => {false, true}
  | some (some _) => {false}

/-- One round on every cell. -/
def talkRd (I : Dev nD → Ins F) : Rounds.Schedule (GSem nD τ sig) Bool 𝕄 where
  duties g r := if r = 0 ∧ g.1.2 = .tc then dutiesOf (which g.2) else ∅
  unitless _ := False
  amount g _ _ := if g.2 = .reg bSem then 1 else N
  payload g _ b := payOf I g.1.1 b (which g.2)
  amount_pos g _ _ _ := by
    by_cases h : g.2 = .reg bSem
    · rw [if_pos h]; exact Nat.one_pos
    · rw [if_neg h]; exact N_pos

/-- A view's elements at contents not said may be in the body of an invariant. -/
theorem any_storable (c : Thread nD τ) {sp : Space} {sh : Shape} {e : EltTy} (m : Memref sig c.2.kind sp sh e) :
    BI.Storable (upEmb : UEmb _ 𝕄) iprop(∃ f, m.view.loc c ↦[m.view.set]{fullShare} f) := by
  infer_instance

theorem at_storable (c : Thread nD τ) {sp : Space} {sh : Shape} {e : EltTy} (m : Memref sig c.2.kind sp sh e)
    (X : sh.Idx → Elt F e) :
    BI.Storable (upEmb : UEmb _ 𝕄)
      iprop(∃ f, ⌜m.view.read (Elt F) f = X⌝ ∗ (m.view.loc c ↦[m.view.set]{fullShare} f)) := by
  infer_instance

theorem reached_storable (g : GSem nD τ sig) : BI.Storable (upEmb : UEmb _ 𝕄) (reached ER g 0) := by
  infer_instance

instance barPay_storable (c : Dev nD) (b : Bool) : BI.Storable (upEmb : UEmb _ 𝕄) (barPay (F := F) c b) := by
  unfold barPay
  have h : ∀ j : Fin 2 × Fin 8, BI.Storable (upEmb : UEmb _ 𝕄)
      (iprop(rAny (F := F) j.1 (peerW b c) j.2 ∗ reached ER (rCell j.1 (peerW b c) j.2) 0)) := fun j =>
    haveI := any_storable (F := F) (peerW b c : Thread nD τ) (rv j.1 j.2)
    haveI := reached_storable (F := F) (rCell j.1 (peerW b c) j.2)
    BI.Storable.sep _ _ _
  exact BI.Storable.bigSep _ _ _

instance talkRd_payload_storable (I : Dev nD → Ins F) (g : GSem nD τ sig) (r : ℕ) (d : Bool) :
    BI.Storable (upEmb : UEmb _ 𝕄) ((talkRd I).payload g r d) := by
  show BI.Storable upEmb (payOf I g.1.1 d (which g.2))
  rcases which g.2 with _ | _ | ⟨_ | _, st, k⟩
  · show BI.Storable upEmb iprop(emp); infer_instance
  · show BI.Storable upEmb (barPay g.1.1 d); infer_instance
  · show BI.Storable upEmb (sendPay I st g.1.1 k); exact at_storable (F := F) (g.1.1 : Thread nD τ) (sv k) _
  · show BI.Storable upEmb (recvPay I st g.1.1 k); exact at_storable (F := F) (g.1.1 : Thread nD τ) (rv st k) _

section Sched

variable (I : Dev nD → Ins F) (c : Dev nD) (st : Fin 2) (k : Fin 8)

theorem duties_cell (s : Option Ch) : (talkRd I).duties (cell c s) 0 = dutiesOf (some s) := by
  dsimp only [talkRd]; rw [if_pos ⟨rfl, rfl⟩, which_csem]
theorem duties_bar : (talkRd I).duties (barCell c) 0 = {false, true} := duties_cell I c none
theorem duties_ch (j : Ch) : (talkRd I).duties (cell c (some j)) 0 = {false} := duties_cell I c (some j)
theorem duties_later (g : GSem nD τ sig) : ∀ r, 1 ≤ r → (talkRd I).duties g r = ∅ :=
  fun r hr => by dsimp only [talkRd]; rw [if_neg (fun h => by omega)]

theorem mem_bar (b : Bool) : b ∈ (talkRd I).duties (barCell c) 0 := by rw [duties_bar]; cases b <;> decide
theorem mem_ch (j : Ch) : false ∈ (talkRd I).duties (cell c (some j)) 0 := by
  rw [duties_ch]; exact Finset.mem_singleton_self _

theorem amount_bar (b : Bool) : (talkRd I).amount (barCell c) 0 b = 1 := by dsimp only [talkRd]; exact if_pos rfl
theorem amount_ch (j : Ch) (b : Bool) : (talkRd I).amount (cell c (some j)) 0 b = N := by
  dsimp only [talkRd]; exact if_neg (fun h => by cases h)

theorem expect_bar : (talkRd I).expect (barCell c) 0 = 2 := by
  unfold Schedule.expect Schedule.amountOf; rw [duties_bar, Finset.sum_pair (by decide), amount_bar, amount_bar]
theorem expect_ch (j : Ch) : (talkRd I).expect (cell c (some j)) 0 = N := by
  unfold Schedule.expect Schedule.amountOf; rw [duties_ch, Finset.sum_singleton, amount_ch]

theorem payload_bar (b : Bool) : (talkRd I).payload (barCell c) 0 b = barPay c b := by
  dsimp only [talkRd]; rw [which_csem]; rfl
theorem payload_send : (talkRd I).payload (sCell st c k) 0 false = sendPay I st c k := by
  dsimp only [talkRd]; rw [which_csem]; rfl
theorem payload_recv : (talkRd I).payload (rCell st c k) 0 false = recvPay I st c k := by
  dsimp only [talkRd]; rw [which_csem]; rfl

theorem rest_bar : bigSep ((talkRd I).duties (barCell c) 0 \ ∅) (fun b => (talkRd I).payload (barCell c) 0 b)
    = iprop(barPay c false ∗ barPay c true) := by
  rw [Finset.sdiff_empty, duties_bar, bigSep_insert (by decide), bigSep_singleton, payload_bar, payload_bar]; rfl
theorem rest_send : bigSep ((talkRd I).duties (sCell st c k) 0 \ ∅) (fun b => (talkRd I).payload (sCell st c k) 0 b)
    = sendPay I st c k := by
  rw [Finset.sdiff_empty, duties_ch, bigSep_singleton, payload_send]
theorem rest_recv : bigSep ((talkRd I).duties (rCell st c k) 0 \ ∅) (fun b => (talkRd I).payload (rCell st c k) 0 b)
    = recvPay I st c k := by
  rw [Finset.sdiff_empty, duties_ch, bigSep_singleton, payload_recv]

end Sched

/-! ## What a device owes; the order of the waits -/

/-- The credits of a stage's copies that are still to be made, over a list of chunks. -/
def dueL (st : Fin 2) (c : Dev nD) : List (Fin 8) → CellTallies nD τ sig Unit
  | [] => 0
  | k :: l => dueL st c l + tallyAt (rCell st (peerW (via st k) c) k) () N

/-- At launch: every copy's credit, and a unit at each partner's barrier. -/
def O₀ (c : Dev nD) : CellTallies nD τ sig Unit :=
  dueL 1 c chunks + dueL 0 c chunks + tallyAt (barCell (peerW true c)) () 1 + tallyAt (barCell (peerW false c)) () 1

def L (g : GSem nD τ sig) : Finset Unit := if g.1.2 = .tc then {()} else ∅

def lvOf : Option (Option Ch) → ℕ
  | some none => 1
  | some (some (true, st, _)) => 2 + st.val
  | _ => 0

/-- The barrier before stage 0, stage 0 before stage 1. -/
def lv (g : GSem nD τ sig) (_ : Unit) : ℕ := lvOf (which g.2)

theorem lv_cell (c : Dev nD) (s : Option Ch) (u : Unit) : lv (cell c s) u = lvOf (some s) := by
  unfold lv; rw [which_csem]

theorem L_of_ne (g : GSem nD τ sig) (h : g.1.2 ≠ .tc) : L g = ∅ := if_neg h
theorem L_tc (c : Dev nD) (sm : SemLoc sig) : L ((c : Thread nD τ), sm) = {()} := if_pos rfl

/-- A credit that a stage owes is at a receive cell of that stage. -/
theorem dueL_pos {st : Fin 2} {c : Dev nD} {l : List (Fin 8)} {g : GSem nD τ sig} {u : Unit} (h : 0 < dueL st c l g u) :
    ∃ d k, g = rCell st d k := by
  induction l with
  | nil => exact absurd h (Nat.lt_irrefl 0)
  | cons k l ih =>
    have h' : 0 < dueL st c l g u + tallyAt (rCell st (peerW (via st k) c) k) () N g u := h
    rcases Nat.eq_zero_or_pos (dueL st c l g u) with h0 | h0
    · rw [h0, Nat.zero_add, tallyAt_apply] at h'
      by_cases hg : g = rCell st (peerW (via st k) c) k ∧ u = ()
      · exact ⟨_, _, hg.1⟩
      · rw [if_neg hg] at h'; exact absurd h' (Nat.lt_irrefl 0)
    · exact ih h0

/-- A device may wait at a cell below everything it still owes. -/
theorem mayWait (c : Dev nD) (s : Option Ch) (O : CellTallies nD τ sig Unit)
    (hO : ∀ g u, 0 < O g u → ∃ d t, g = cell d t ∧ lvOf (some s) < lvOf (some t)) :
    (levAts L lv : sProp 𝕄) ⊢ MayWait (c : Thread nD τ) (csem s) () O :=
  MayOwe.of_cut (L := L) (lev := lv) (lvOf (some s))
    (fun p hp => by rw [Finset.mem_singleton.mp hp, L_tc]; exact Finset.mem_singleton_self _)
    (fun g u hg => by obtain ⟨d, t, rfl, -⟩ := hO g u hg; rw [L_tc]; exact Finset.mem_singleton_self _)
    (fun p hp => by rw [Finset.mem_singleton.mp hp]; exact (lv_cell c s ()).le)
    (fun g u hg => by obtain ⟨d, t, rfl, h⟩ := hO g u hg; rw [lv_cell]; exact h)

theorem mayWait_bar (c : Dev nD) :
    (levAts L lv : sProp 𝕄) ⊢ MayWait (c : Thread nD τ) (.reg bSem) () (dueL 1 c chunks + dueL 0 c chunks) :=
  mayWait c none _ fun g u hg => by
    have h' : 0 < dueL 1 c chunks g u + dueL 0 c chunks g u := hg
    rcases Nat.eq_zero_or_pos (dueL 1 c chunks g u) with h0 | h0
    · rw [h0, Nat.zero_add] at h'
      obtain ⟨d, k, rfl⟩ := dueL_pos h'
      exact ⟨d, _, rfl, by show (1 : ℕ) < 2 + _; omega⟩
    · obtain ⟨d, k, rfl⟩ := dueL_pos h0
      exact ⟨d, _, rfl, by show (1 : ℕ) < 2 + _; omega⟩

theorem mayWait_ch (c : Dev nD) (b : Bool) (k : Fin 8) (l : List (Fin 8)) :
    (levAts L lv : sProp 𝕄) ⊢ MayWait (c : Thread nD τ) (osem (b, 0, k)) () (dueL 1 c l) :=
  mayWait c (some (b, 0, k)) _ fun g u hg => by
    obtain ⟨d, k', rfl⟩ := dueL_pos hg
    exact ⟨d, _, rfl, by cases b; exacts [(by decide : 0 < 3), (by decide : 2 < 3)]⟩

/-! ## The protocol's ghost state -/

/-- Every cell's invariant, at the names `K`. -/
def invs (I : Dev nD → Ins F) (K : GSem nD τ sig → ℕ) : sProp 𝕄 :=
  bigSep (Finset.univ : Finset (Dev nD × Option Ch)) fun p => cellInv ER (talkRd I) (K (cell p.1 p.2)) (cell p.1 p.2)

instance invs_persistent (I : Dev nD → Ins F) (K : GSem nD τ sig → ℕ) : BI.Persistent (invs I K) := by
  unfold invs; infer_instance

theorem inv_at (I : Dev nD → Ins F) (K : GSem nD τ sig → ℕ) (c : Dev nD) (s : Option Ch) :
    invs I K ⊢ cellInv ER (talkRd I) (K (cell c s)) (cell c s) :=
  bigSep_elim (Finset.mem_univ (c, s)) (Φ := fun p : Dev nD × Option Ch => cellInv ER (talkRd I) (K (cell p.1 p.2)) (cell p.1 p.2))

/-- The tokens with which `c` makes its copies: each copy pays the partner's receive cell and `c`'s own send cell. -/
def copyToks (c : Dev nD) : sProp 𝕄 :=
  bigSep (Finset.univ : Finset (Fin 2 × Fin 8)) fun j =>
    iprop(dutyTok ER (rCell j.1 (peerW (via j.1 j.2) c) j.2) 0 false ∗ dutyTok ER (sCell j.1 c j.2) 0 false)

/-- The tokens with which it signals. -/
def barToks (c : Dev nD) : sProp 𝕄 :=
  bigSep (Finset.univ : Finset Bool) fun b =>
    iprop(reached ER (barCell (peerW b c)) 0 ∗ dutyTok ER (barCell (peerW b c)) 0 b)

/-- What device `c` carries from launch to the talking call. -/
def ghost (I : Dev nD → Ins F) (K : GSem nD τ sig → ℕ) (c : Dev nD) : sProp 𝕄 :=
  iprop(invs I K ∗ atPos ER (barCell c) 0 ∅ 0 ∗ (bigSep (Finset.univ : Finset Ch) fun j => openTok ER (cell c (some j)))
    ∗ barToks c ∗ copyToks c)

/-- The credits it waits with. -/
def creds (c : Dev nD) : sProp 𝕄 :=
  iprop(cred (tallyAt (barCell c) () 2)
    ∗ bigSep (Finset.univ : Finset (Fin 2 × Fin 8)) fun j => cred (tallyAt (rCell j.1 c j.2) () N))

/-- Its own cells opened. -/
def openCells (c : Dev nD) : sProp 𝕄 :=
  bigSep (Finset.univ : Finset Ch) fun j => iprop(atPos ER (cell c (some j)) 0 ∅ 0 ∗ reached ER (cell c (some j)) 0)

theorem close (I : Dev nD → Ins F) (κ : ℕ) (g : GSem nD τ sig) :
    iprop(cellInv ER (talkRd I) κ g ∗ atPos ER g (0 + 1) ∅ 0) ⊢ (|={Set.univ}=> semVal g 0 : sProp 𝕄) :=
  Rounds.cell_close ER (talkRd I) (Set.mem_univ κ) id (duties_later I g)

abbrev 𝒱₀ : Variants := Variants.none

end Cert.KernelIdeal.Talk
-- ==== Proof.Steps.lean ====
/-
  THE STEPS OF A CHUNK, each stated once for every device, stage and chunk: a load and a store of a chunk of the send
  buffer, the receive buffer and the output; the copy of a chunk to a partner; the two waits.
-/
module

public import proofs.«01_k».proof.Proof.Protocol
public import Idealize.ShloMosaic.Lib.Pipeline.Value

@[expose] public section

set_option maxRecDepth 65536

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Device `c` runs a part of the body. -/
abbrev run {α : Type} (c : Dev nD) (p : PR F α) (Q : α → sProp 𝕄) : sProp 𝕄 :=
  wp frame (wpE (defs₀ (F := F)) 𝒱₀ (c : Thread nD τ) none) Set.univ p Q

/-- What it owes, whatever it has waited for. -/
abbrev owesE (c : Dev nD) (O : CellTallies nD τ sig Unit) : sProp 𝕄 :=
  iprop(∃ W, owes (c : Thread nD τ) O W)

theorem run_ret {α : Type} (c : Dev nD) (a : α) (Q : α → sProp 𝕄) : Q a ⊢ run c (.ret a) Q := by
  show Q a ⊢ wp frame (wpE (defs₀ (F := F)) 𝒱₀ (c : Thread nD τ) none) Set.univ (.ret a) Q
  rw [wp_ret]
  iintro H
  imodintro
  iexact H

theorem run_bind {α β : Type} (c : Dev nD) (p : PR F α) (k : α → PR F β) (Q : β → sProp 𝕄) :
    run c p (fun a => run c (k a) Q) ⊢ run c (p >>= k) Q :=
  Entails.of_eq (wp_bind _ _ _ _ _ _).symm

/-! ## The send buffer's chunk -/

theorem sv_set (k : Fin 8) : (sv k).view.set = (sBuf.access (sRect k)).set := View.set_reshape _ _

theorem sv_sub (k : Fin 8) : (sBuf.access (sRect k)).set ⊆ (sv k).view.set := (sv_set k).symm.subset

/-- A load of the chunk reads what the view of the chunk reads, with a unit axis in front. -/
theorem sv_read (c : Dev nD) (k : Fin 8) (f : Buf (Elt F) ((sv k).view.loc (c : Thread nD τ))) :
    shapeCast S64x768 ((sBuf.access (sRect k)).read (Elt F) f) shapeCasts_S1x64x768_S64x768 = (sv k).view.read (Elt F) f := rfl

theorem sv_write (c : Dev nD) (k : Fin 8) (f : Buf (Elt F) ((sv k).view.loc (c : Thread nD τ))) (v : FVec F S64x768 .bf16) :
    (sv k).view.read (Elt F) ((sBuf.access (sRect k)).write (Elt F) f (shapeCast S1x64x768 v shapeCasts_S64x768_S1x64x768) Finset.univ) = v := by
  rw [← sv_read c, View.read_write_univ]
  exact shapeCast_shapeCast _ _ _

theorem load_s (c : Dev nD) (k : Fin 8) (X : FVec F S64x768 .bf16) (Kt : Vec F S1x64x768 .bf16 → sProp 𝕄) :
    sAt c k X ⊢ iprop((∀ v, ⌜shapeCast S64x768 v shapeCasts_S1x64x768_S64x768 = X⌝ -∗ sAt c k X -∗ Kt v) -∗ run c (loadS k) Kt) := by
  iintro ⟨%f, %hf, Hf⟩ HK
  iapply (wp_load_rect 𝒱₀ (c : Thread nD τ) none Set.univ (sv_sub k) (f := f)) $$ Hf
  iintro Hf
  iapply run_ret
  iapply HK $$ [] [Hf]
  · ipureintro; exact (sv_read c k f).trans hf
  · iexists f; isplitr; · ipureintro; exact hf
    iexact Hf

theorem store_s (c : Dev nD) (k : Fin 8) (v : FVec F S64x768 .bf16) (Kt : PUnit → sProp 𝕄) :
    sAny c k ⊢ iprop((sAt c k v -∗ Kt ⟨⟩) -∗ run c (storeS k v) Kt) := by
  iintro ⟨%f, Hf⟩ HK
  iapply (wp_store 𝒱₀ (c : Thread nD τ) none Set.univ (sv_sub k) (f := f)) $$ Hf
  iintro Hf
  iapply run_ret
  iapply HK
  iexists _; isplitr; rotate_left
  · iexact Hf
  · ipureintro; exact sv_write c k f v

theorem sAt_any (c : Dev nD) (k : Fin 8) (X : FVec F S64x768 .bf16) : (sAt c k X : sProp 𝕄) ⊢ sAny c k := by
  iintro ⟨%f, -, Hf⟩
  iexists f; iexact Hf

theorem sAny_at (c : Dev nD) (k : Fin 8) : (sAny c k : sProp 𝕄) ⊢ iprop(∃ X, sAt c k X) := by
  iintro ⟨%f, Hf⟩
  iexists (sv k).view.read (Elt F) f
  iexists f
  isplitr; · ipureintro; rfl
  iexact Hf

/-! ## The receive buffer's chunk -/

theorem rv_sub (st : Fin 2) (k : Fin 8) : (rBuf.access (rRect st k)).set ⊆ (rv st k).view.set :=
  (View.set_reshape _ _).symm.subset

theorem rv_read (c : Dev nD) (st : Fin 2) (k : Fin 8) (f : Buf (Elt F) ((rv st k).view.loc (c : Thread nD τ))) :
    shapeCast S64x768 ((rBuf.access (rRect st k)).read (Elt F) f) shapeCasts_S1x1x64x768_S64x768 = (rv st k).view.read (Elt F) f := rfl

theorem load_r (c : Dev nD) (st : Fin 2) (k : Fin 8) (X : FVec F S64x768 .bf16) (Kt : Vec F S1x1x64x768 .bf16 → sProp 𝕄) :
    rAt st c k X ⊢ iprop((∀ v, ⌜shapeCast S64x768 v shapeCasts_S1x1x64x768_S64x768 = X⌝ -∗ rAt st c k X -∗ Kt v) -∗ run c (loadR st k) Kt) := by
  iintro ⟨%f, %hf, Hf⟩ HK
  iapply (wp_load_rect 𝒱₀ (c : Thread nD τ) none Set.univ (rv_sub st k) (f := f)) $$ Hf
  iintro Hf
  iapply run_ret
  iapply HK $$ [] [Hf]
  · ipureintro; exact (rv_read c st k f).trans hf
  · iexists f; isplitr; · ipureintro; exact hf
    iexact Hf

theorem rAt_any (st : Fin 2) (c : Dev nD) (k : Fin 8) (X : FVec F S64x768 .bf16) : (rAt st c k X : sProp 𝕄) ⊢ rAny st c k := by
  iintro ⟨%f, -, Hf⟩
  iexists f; iexact Hf

/-! ## The output's chunk -/

/-- A chunk's rows of the output, as an access names them. -/
abbrev ov (k : Fin 8) : View sig .tc .vmem S1x64x768 .f32 := oBuf.access (oRect k)

/-- A chunk's rows of the output at contents not said, -/
abbrev oAny (c : Dev nD) (k : Fin 8) : sProp 𝕄 :=
  iprop(∃ f, (ov k).loc (c : Thread nD τ) ↦[(ov k).set]{fullShare} f)
/-- and at `X`. -/
abbrev oAt (c : Dev nD) (k : Fin 8) (X : FVec F S64x768 .f32) : sProp 𝕄 :=
  iprop(∃ f, ⌜shapeCast S64x768 ((ov k).read (Elt F) f) shapeCasts_S1x64x768_S64x768 = X⌝
    ∗ (ov k).loc (c : Thread nD τ) ↦[(ov k).set]{fullShare} f)

theorem load_o (c : Dev nD) (k : Fin 8) (Kt : Vec F S1x64x768 .f32 → sProp 𝕄) :
    oAny c k ⊢ iprop((∀ v, oAny c k -∗ Kt v) -∗ run c (loadO k) Kt) := by
  iintro ⟨%f, Hf⟩ HK
  iapply (wp_load_rect 𝒱₀ (c : Thread nD τ) none Set.univ (Finset.Subset.refl _) (f := f)) $$ Hf
  iintro Hf
  iapply run_ret
  iapply HK
  iexists f
  iexact Hf

theorem store_o (c : Dev nD) (k : Fin 8) (v : FVec F S64x768 .f32) (Kt : PUnit → sProp 𝕄) :
    oAny c k ⊢ iprop((oAt c k v -∗ Kt ⟨⟩) -∗ run c (storeO k v) Kt) := by
  iintro ⟨%f, Hf⟩ HK
  iapply (wp_store 𝒱₀ (c : Thread nD τ) none Set.univ (S := (ov k).set) (m := oBuf) (r := oRect k) (Mk := Finset.univ) (Finset.Subset.refl _) (f := f)) $$ Hf
  iintro Hf
  iapply run_ret
  iapply HK
  iexists _; isplitr; rotate_left
  · iexact Hf
  · ipureintro
    rw [View.read_write_univ]
    exact shapeCast_shapeCast _ _ _

/-! ## The copy and the waits -/

/-- What a copy needs besides what is sent: the partner's chunk of the receive buffer, and the two duties. -/
def sendKit (st : Fin 2) (c : Dev nD) (k : Fin 8) : sProp 𝕄 :=
  iprop(rAny st (peerW (via st k) c) k
    ∗ dutyTok ER (rCell st (peerW (via st k) c) k) 0 false ∗ dutyTok ER (sCell st c k) 0 false
    ∗ reached ER (rCell st (peerW (via st k) c) k) 0 ∗ reached ER (sCell st c k) 0)

theorem landed (I : Dev nD → Ins F) (st : Fin 2) (c : Dev nD) (k : Fin 8)
    (fs : Buf (Elt F) ((sv k).view.loc (c : Thread nD τ)))
    (fd : Buf (Elt F) ((rv st k).view.loc (peerW (via st k) c : Thread nD τ)))
    (hf : (sv k).view.read (Elt F) fs = sent I st c k) :
    ((rv st k).view.loc (peerW (via st k) c : Thread nD τ) ↦[(rv st k).view.set]{fullShare}
        ((rv st k).view.write (Elt F) fd ((sv k).view.read (Elt F) fs) Finset.univ) : sProp 𝕄)
      ⊢ recvPay I st (peerW (via st k) c) k := by
  unfold recvPay
  rw [peer_peer, ← hf]
  iintro H
  iexists _; isplitr; rotate_left
  · iexact H
  · ipureintro; exact View.read_write_univ _ _

theorem copy_step (I : Dev nD → Ins F) (K : GSem nD τ sig → ℕ) (st : Fin 2) (c : Dev nD) (k : Fin 8)
    (O : CellTallies nD τ sig Unit) (Kt : PUnit → sProp 𝕄) :
    iprop(invs I K ∗ sAt c k (sent I st c k) ∗ sendKit st c k
        ∗ owesE c (O + tallyAt (rCell st (peerW (via st k) c) k) () N))
      ⊢ iprop((cred (tallyAt (sCell st c k) () N) ∗ owesE c O -∗ Kt ⟨⟩) -∗ run c (copy c st k) Kt) := by
  unfold sendKit
  iintro ⟨#HI, ⟨%fs, %hf, Hs⟩, ⟨⟨%fd, Hr⟩, HtR, HtS, #HrR, #HrS⟩, ⟨%W, HO⟩⟩ HK
  iapply (Rounds.wp_send_pointsTo 𝒱₀ ER (talkRd I) (c : Thread nD τ) none (c' := (peerW (via st k) c : Thread nD τ)) (src := sv k) (dst := rv st k)
      (sS := .dma (sSem st k)) (sem := .dma (rSem st k)) (q := fullShare) (fs := fs)
      (κ₁ := K (sCell st c k)) (κ₂ := K (rCell st (peerW (via st k) c) k))
      (r₁ := 0) (r₂ := 0) (d₁ := false) (d₂ := false) (fd := fd)
      (mem_ch I c (false, st, k)) (mem_ch I _ (true, st, k))
      () () N (credit_rv st k) (amount_ch I c (false, st, k) false) (amount_ch I _ (true, st, k) false) O rfl (W := W)
      (by rw [show ((c : Thread nD τ), SemLoc.dma (sSem st k)) = sCell st c k from rfl, payload_send]
          unfold sendPay
          iintro H
          iexists fs
          isplitr; · ipureintro; exact hf
          iexact H)
      (by rw [show ((peerW (via st k) c : Thread nD τ), SemLoc.dma (rSem st k)) = rCell st (peerW (via st k) c) k from rfl, payload_recv]
          exact landed I st c k fs fd hf)) $$ [Hs Hr HO HtS HtR]
  · isplitr; · iapply (inv_at I K c (some (false, st, k))); iexact HI
    isplitr; · iapply (inv_at I K (peerW (via st k) c) (some (true, st, k))); iexact HI
    isplitl [Hs]; · iexact Hs
    isplitl [Hr]; · iexact Hr
    isplitl [HO]; · iexact HO
    isplitl [HtS]; · iexact HtS
    isplitr; · iexact HrS
    isplitl [HtR]; · iexact HtR
    iexact HrR
  iintro ⟨HcS, HO⟩
  iapply run_ret
  iapply HK
  isplitl [HcS]; · iexact HcS
  iexists W; iexact HO

theorem waitS_step (I : Dev nD → Ins F) (K : GSem nD τ sig → ℕ) (st : Fin 2) (c : Dev nD) (k : Fin 8)
    (O : CellTallies nD τ sig Unit) (Kt : PUnit → sProp 𝕄) :
    iprop(invs I K ∗ cred (tallyAt (sCell st c k) () N) ∗ owesE c O
        ∗ MayWait (c : Thread nD τ) (osem (false, st, k)) () O ∗ atPos ER (sCell st c k) 0 ∅ 0)
      ⊢ iprop((atPos ER (sCell st c k) (0 + 1) ∅ 0 ∗ sAt c k (sent I st c k) ∗ owesE c O -∗ Kt ⟨⟩) -∗ run c (waitS st k) Kt) := by
  iintro ⟨#HI, Hc, ⟨%W, HO⟩, HM, Hat⟩ HK
  iapply (Rounds.wp_wait_rest_token 𝒱₀ ER (talkRd I) (c : Thread nD τ) none (κ := K (sCell st c k))
      (sm := .dma (sSem st k)) (k' := (sv k).view.dmaCredit)
      (wpE_waitDma2_eq (src := rv st k) (dst := sv k) 𝒱₀ (c : Thread nD τ) none Set.univ) (Set.mem_univ _) () (O := O) (W := W) (R := 0) (m := 0) (T := ∅)
      ((Nat.zero_add _).trans ((credit_sv k).trans (expect_ch I c (false, st, k)).symm))) $$ [Hc HO HM Hat]
  · isplitr; · iapply (inv_at I K c (some (false, st, k))); iexact HI
    isplitl [Hc]; · rw [credit_sv]; iexact Hc
    isplitl [HO]; · iexact HO
    isplitl [HM]; · iexact HM
    iexact Hat
  iintro ⟨HO, Hat, -, Hpay⟩
  have hr : (bigSep ((talkRd I).duties ((c : Thread nD τ), .dma (sSem st k)) 0 \ ∅)
      (fun b => (talkRd I).payload ((c : Thread nD τ), .dma (sSem st k)) 0 b) : sProp 𝕄) = sAt c k (sent I st c k) := rest_send I c st k
  ihave Hs := (Entails.of_eq hr) $$ Hpay
  iapply run_ret
  iapply HK
  isplitl [Hat]; · iexact Hat
  isplitl [Hs]; · iexact Hs
  iexists _; iexact HO

theorem waitR_step (I : Dev nD → Ins F) (K : GSem nD τ sig → ℕ) (st : Fin 2) (c : Dev nD) (k : Fin 8)
    (O : CellTallies nD τ sig Unit) (Kt : PUnit → sProp 𝕄) :
    iprop(invs I K ∗ cred (tallyAt (rCell st c k) () N) ∗ owesE c O
        ∗ MayWait (c : Thread nD τ) (osem (true, st, k)) () O ∗ atPos ER (rCell st c k) 0 ∅ 0)
      ⊢ iprop((atPos ER (rCell st c k) (0 + 1) ∅ 0 ∗ rAt st c k (sent I st (peerW (via st k) c) k) ∗ owesE c O -∗ Kt ⟨⟩)
          -∗ run c (waitR st k) Kt) := by
  iintro ⟨#HI, Hc, ⟨%W, HO⟩, HM, Hat⟩ HK
  iapply (Rounds.wp_wait_rest_token 𝒱₀ ER (talkRd I) (c : Thread nD τ) none (κ := K (rCell st c k))
      (sm := .dma (rSem st k)) (k' := (rv st k).view.dmaCredit)
      (wpE_waitDma2_eq (src := sv k) (dst := rv st k) 𝒱₀ (c : Thread nD τ) none Set.univ) (Set.mem_univ _) () (O := O) (W := W) (R := 0) (m := 0) (T := ∅)
      ((Nat.zero_add _).trans ((credit_rv st k).trans (expect_ch I c (true, st, k)).symm))) $$ [Hc HO HM Hat]
  · isplitr; · iapply (inv_at I K c (some (true, st, k))); iexact HI
    isplitl [Hc]; · rw [credit_rv]; iexact Hc
    isplitl [HO]; · iexact HO
    isplitl [HM]; · iexact HM
    iexact Hat
  iintro ⟨HO, Hat, -, Hpay⟩
  have hr : (bigSep ((talkRd I).duties ((c : Thread nD τ), .dma (rSem st k)) 0 \ ∅)
      (fun b => (talkRd I).payload ((c : Thread nD τ), .dma (rSem st k)) 0 b) : sProp 𝕄) = rAt st c k (sent I st (peerW (via st k) c) k) := rest_recv I c st k
  ihave Hs := (Entails.of_eq hr) $$ Hpay
  iapply run_ret
  iapply HK
  isplitl [Hat]; · iexact Hat
  isplitl [Hs]; · iexact Hs
  iexists _; iexact HO

end Cert.KernelIdeal.Talk
-- ==== Proof.Chunks.lean ====
/-
  THE THREE ROUNDS, chunk by chunk: what one chunk's part of a round needs and leaves, and a whole round by running over
  the list of chunks.
-/
module

public import proofs.«01_k».proof.Proof.Steps

@[expose] public section

set_option maxRecDepth 65536

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A family over a list of chunks. -/
abbrev over (l : List (Fin 8)) (Φ : Fin 8 → sProp 𝕄) : sProp 𝕄 := bigSepL l Φ

/-- A round over a list: if every chunk's part turns `P k` into `Q k` and what is owed with the chunk into what is owed
    without it, beside what the round keeps, the whole round turns all the `P`s into all the `Q`s. -/
theorem each_run (c : Dev nD) (f : Fin 8 → PR F PUnit) (R : sProp 𝕄) (P Q : Fin 8 → sProp 𝕄)
    (O : List (Fin 8) → CellTallies nD τ sig Unit)
    (h : ∀ k l (Kt : PUnit → sProp 𝕄),
      iprop(P k ∗ R ∗ owesE c (O (k :: l))) ⊢ iprop((Q k ∗ R ∗ owesE c (O l) -∗ Kt ⟨⟩) -∗ run c (f k) Kt)) :
    ∀ l (Kt : PUnit → sProp 𝕄),
      iprop(over l P ∗ R ∗ owesE c (O l)) ⊢ iprop((over l Q ∗ R ∗ owesE c (O []) -∗ Kt ⟨⟩) -∗ run c (each l f) Kt)
  | [], Kt => by
      iintro ⟨HP, HR, HO⟩ HK
      iapply run_ret
      iapply HK
      isplitl [HP]; · iexact HP
      isplitl [HR]; · iexact HR
      iexact HO
  | k :: l, Kt => by
      show iprop(bigSepL (k :: l) P ∗ _) ⊢ iprop((bigSepL (k :: l) Q ∗ _ -∗ _) -∗ _)
      rw [bigSepL_cons', bigSepL_cons']
      iintro ⟨⟨Hk, HP⟩, HR, HO⟩ HK
      iapply run_bind
      iapply (h k l _) $$ [Hk HR HO]
      · isplitl [Hk]; · iexact Hk
        isplitl [HR]; · iexact HR
        iexact HO
      iintro ⟨HQ, HR, HO⟩
      iapply (each_run c f R P Q O h l _) $$ [HP HR HO]
      · isplitl [HP]; · iexact HP
        isplitl [HR]; · iexact HR
        iexact HO
      iintro ⟨HQl, HR, HO⟩
      iapply HK
      isplitl [HQ HQl]
      · isplitl [HQ]; · iexact HQ
        iexact HQl
      isplitl [HR]; · iexact HR
      iexact HO

/-! ## A whole buffer is loaded -/

/-- A load of every element from the start reads the contents. -/
theorem readAt_all (b : Ref sig .tc) (off : Fin b.ty.shape.rank → Nat) (inb : ∀ a, off a + b.ty.shape.size a ≤ b.ty.shape.size a)
    (h : ∀ a, off a = 0) (v : b.ty.Contents (Elt F)) :
    (Memref.whole b).view.readAt (Elt F) (Rect.unit (s := b.ty.shape) off b.ty.shape.size inb).toLoadRect v = v := by
  obtain rfl : off = fun _ => 0 := funext h
  exact Memref.readAt_whole (Elt F) b v

theorem load_whole (c : Dev nD) {cs : CoreSpace} {s : Shape} {e : EltTy} (m : Memref sig .tc cs s e) {r : LoadRect s}
    (hl : m.view.LoadsAt r) (v : Buf (Elt F) (m.view.loc (c : Thread nD τ))) (X : r.shape.Idx → Elt F e)
    (hX : m.view.readAt (Elt F) r v = X) (Kt : (r.shape.Idx → Elt F e) → sProp 𝕄) :
    (m.view.loc (c : Thread nD τ) ↦{fullShare} v)
      ⊢ iprop(((m.view.loc (c : Thread nD τ) ↦{fullShare} v) -∗ Kt X) -∗ run c (Prog.lift (.load m r hl)) Kt) := by
  iintro Hf HK
  iapply (wp_load 𝒱₀ (c : Thread nD τ) none Set.univ (m := m) (S := Finset.univ) (Finset.subset_univ _) (f := v)) $$ Hf
  iintro Hf
  iapply run_ret
  rw [hX]
  iapply HK
  iexact Hf

/-! ## Round one: a chunk is made and sent -/

/-- The output weights, as the body holds them. -/
abbrev woAt (c : Dev nD) (v : Vec F S256x768 .bf16) : sProp 𝕄 :=
  ((c : Thread nD τ).loc cc0_stg4_0) ↦{fullShare} v

theorem load_wo (c : Dev nD) (v : Vec F S256x768 .bf16) (Kt : Vec F S256x768 .bf16 → sProp 𝕄) :
    woAt c v ⊢ iprop((woAt c v -∗ Kt v) -∗ run c loadWo Kt) :=
  load_whole c (Memref.whole cc0_stg4_0 : Memref sig .tc .vmem S256x768 .bf16)
    (r := (Rect.unit (s := S256x768) ![0, 0] S256x768.size inb_S256x768_S256x768_0_0).toLoadRect)
    (View.loadsAt_vmem h_S256x768) v v (readAt_all cc0_stg4_0 ![0, 0] inb_S256x768_S256x768_0_0 (by decide) v) Kt

/-- A chunk's first round needs the chunk of the send buffer and what its copy needs; -/
abbrev makePre (c : Dev nD) (k : Fin 8) : sProp 𝕄 := iprop(sAny c k ∗ sendKit 0 c k)
/-- it leaves the credit of the copy. -/
abbrev makePost (c : Dev nD) (k : Fin 8) : sProp 𝕄 := cred (tallyAt (sCell 0 c k) () N)

theorem make_run (I : Dev nD → Ins F) (K : GSem nD τ sig → ℕ) (c : Dev nD) (k : Fin 8) (l : List (Fin 8))
    (i : Vec F S256x768 .bf16 → Ins F) (wo : Vec F S256x768 .bf16) (hi : i wo = I c) (Kt : PUnit → sProp 𝕄) :
    iprop(makePre c k ∗ (invs I K ∗ woAt c wo) ∗ owesE c (dueL 1 c chunks + dueL 0 c (k :: l)))
      ⊢ iprop((makePost c k ∗ (invs I K ∗ woAt c wo) ∗ owesE c (dueL 1 c chunks + dueL 0 c l) -∗ Kt ⟨⟩)
          -∗ run c (make c i k) Kt) := by
  unfold make
  iintro ⟨⟨Hs, Hkit⟩, ⟨#HI, Hw⟩, HO⟩ HK
  iapply run_bind
  iapply (load_wo c wo _) $$ Hw
  iintro Hw
  ihave Hs' := (sAny_at c k) $$ Hs
  icases Hs' with ⟨%X, Hs⟩
  iapply run_bind
  iapply (load_s c k X _) $$ Hs
  iintro %v - Hs
  iapply run_bind
  ihave Hs := (sAt_any c k X) $$ Hs
  iapply (store_s c k _ _) $$ Hs
  iintro Hs
  rw [hi, show dueL 1 c chunks + dueL 0 c (k :: l) = (dueL 1 c chunks + dueL 0 c l) + tallyAt (rCell 0 (peerW (via 0 k) c) k) () N
    from (add_assoc _ _ _).symm]
  iapply (copy_step I K 0 c k _ _) $$ [Hs Hkit HO]
  · isplitr; · iexact HI
    isplitl [Hs]; · iexact Hs
    isplitl [Hkit]; · iexact Hkit
    iexact HO
  iintro ⟨Hc, HO⟩
  iapply HK
  isplitl [Hc]; · iexact Hc
  isplitl [Hw]
  · isplitr; · iexact HI
    iexact Hw
  iexact HO

/-! ## Round two: a chunk is received, added and sent on -/

/-- A chunk's second round needs both credits and both positions of stage 0, and what its copy needs; -/
abbrev addPre (c : Dev nD) (k : Fin 8) : sProp 𝕄 :=
  iprop(makePost c k ∗ cred (tallyAt (rCell 0 c k) () N)
    ∗ atPos ER (sCell 0 c k) 0 ∅ 0 ∗ atPos ER (rCell 0 c k) 0 ∅ 0 ∗ sendKit 1 c k)
/-- it leaves the credit of the second copy, the chunk of the receive buffer, and the positions moved on. -/
abbrev addPost (c : Dev nD) (k : Fin 8) : sProp 𝕄 :=
  iprop(cred (tallyAt (sCell 1 c k) () N) ∗ rAny 0 c k
    ∗ atPos ER (sCell 0 c k) (0 + 1) ∅ 0 ∗ atPos ER (rCell 0 c k) (0 + 1) ∅ 0)

theorem add_run (I : Dev nD → Ins F) (K : GSem nD τ sig → ℕ) (c : Dev nD) (k : Fin 8) (l : List (Fin 8)) (Kt : PUnit → sProp 𝕄) :
    iprop(addPre c k ∗ (invs I K ∗ levAts L lv) ∗ owesE c (dueL 1 c (k :: l)))
      ⊢ iprop((addPost c k ∗ (invs I K ∗ levAts L lv) ∗ owesE c (dueL 1 c l) -∗ Kt ⟨⟩) -∗ run c (add c k) Kt) := by
  unfold add
  iintro ⟨⟨HcS, HcR, HaS, HaR, Hkit⟩, ⟨#HI, #HL⟩, HO⟩ HK
  iapply run_bind
  iapply (waitS_step I K 0 c k _ _) $$ [HcS HaS HO]
  · isplitr; · iexact HI
    isplitl [HcS]; · iexact HcS
    isplitl [HO]; · iexact HO
    isplitr; · iapply (mayWait_ch c false k (k :: l)); iexact HL
    iexact HaS
  iintro ⟨HaS, Hs, HO⟩
  iapply run_bind
  iapply (waitR_step I K 0 c k _ _) $$ [HcR HaR HO]
  · isplitr; · iexact HI
    isplitl [HcR]; · iexact HcR
    isplitl [HO]; · iexact HO
    isplitr; · iapply (mayWait_ch c true k (k :: l)); iexact HL
    iexact HaR
  iintro ⟨HaR, Hr, HO⟩
  iapply run_bind
  iapply (load_s c k _ _) $$ Hs
  iintro %v %hv Hs
  iapply run_bind
  iapply (load_r c 0 k _ _) $$ Hr
  iintro %w %hw Hr
  iapply run_bind
  iapply (load_s c k _ _) $$ Hs
  iintro %v' - Hs
  iapply run_bind
  ihave Hs := (sAt_any c k _) $$ Hs
  iapply (store_s c k _ _) $$ Hs
  iintro Hs
  rw [hv, hw]
  iapply (copy_step I K 1 c k (dueL 1 c l) _) $$ [Hs Hkit HO]
  · isplitr; · iexact HI
    isplitl [Hs]; · iexact Hs
    isplitl [Hkit]; · iexact Hkit
    iexact HO
  iintro ⟨Hc, HO⟩
  iapply HK
  isplitl [Hc Hr HaS HaR]
  · isplitl [Hc]; · iexact Hc
    isplitl [Hr]; · iapply (rAt_any 0 c k _); iexact Hr
    isplitl [HaS]; · iexact HaS
    iexact HaR
  isplitr
  · isplitr; · iexact HI
    iexact HL
  iexact HO

/-! ## Round three: a chunk is received, added and stored -/

abbrev finPre (c : Dev nD) (k : Fin 8) : sProp 𝕄 :=
  iprop(cred (tallyAt (sCell 1 c k) () N) ∗ cred (tallyAt (rCell 1 c k) () N)
    ∗ atPos ER (sCell 1 c k) 0 ∅ 0 ∗ atPos ER (rCell 1 c k) 0 ∅ 0 ∗ oAny c k)
abbrev finPost (I : Dev nD → Ins F) (c : Dev nD) (k : Fin 8) : sProp 𝕄 :=
  iprop(oAt c k (outv I c k) ∗ sAny c k ∗ rAny 1 c k
    ∗ atPos ER (sCell 1 c k) (0 + 1) ∅ 0 ∗ atPos ER (rCell 1 c k) (0 + 1) ∅ 0)

theorem finish_run (I : Dev nD → Ins F) (K : GSem nD τ sig → ℕ) (c : Dev nD) (k : Fin 8) (Kt : PUnit → sProp 𝕄) :
    iprop(finPre c k ∗ invs I K ∗ owesE c 0)
      ⊢ iprop((finPost I c k ∗ invs I K ∗ owesE c 0 -∗ Kt ⟨⟩) -∗ run c (finish k) Kt) := by
  unfold finish
  iintro ⟨⟨HcS, HcR, HaS, HaR, Ho⟩, #HI, HO⟩ HK
  iapply run_bind
  iapply (waitS_step I K 1 c k _ _) $$ [HcS HaS HO]
  · isplitr; · iexact HI
    isplitl [HcS]; · iexact HcS
    isplitl [HO]; · iexact HO
    isplitr; · rw [MayWait_zero]; iempintro
    iexact HaS
  iintro ⟨HaS, Hs, HO⟩
  iapply run_bind
  iapply (waitR_step I K 1 c k _ _) $$ [HcR HaR HO]
  · isplitr; · iexact HI
    isplitl [HcR]; · iexact HcR
    isplitl [HO]; · iexact HO
    isplitr; · rw [MayWait_zero]; iempintro
    iexact HaR
  iintro ⟨HaR, Hr, HO⟩
  iapply run_bind
  iapply (load_s c k _ _) $$ Hs
  iintro %v %hv Hs
  iapply run_bind
  iapply (load_r c 1 k _ _) $$ Hr
  iintro %w %hw Hr
  iapply run_bind
  iapply (load_o c k _) $$ Ho
  iintro %v' Ho
  rw [hv, hw]
  iapply (store_o c k _ _) $$ Ho
  iintro Ho
  iapply HK
  isplitl [Ho Hs Hr HaS HaR]
  · isplitl [Ho]; · iexact Ho
    isplitl [Hs]; · iapply (sAt_any c k _); iexact Hs
    isplitl [Hr]; · iapply (rAt_any 1 c k _); iexact Hr
    isplitl [HaS]; · iexact HaS
    iexact HaR
  isplitr; · iexact HI
  iexact HO

end Cert.KernelIdeal.Talk
-- ==== Proof.Body.lean ====
/-
  THE WHOLE BODY at a symbolic device: from what the launch hands it to the output's chunks at `outv`, every counter back
  at zero and nothing owed.
-/
module

public import proofs.«01_k».proof.Proof.Chunks

@[expose] public section

set_option maxRecDepth 65536

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families over the chunks -/

/-- A family over every chunk. -/
abbrev all (Φ : Fin 8 → sProp 𝕄) : sProp 𝕄 := bigSep Finset.univ Φ

theorem over_chunks (Φ : Fin 8 → sProp 𝕄) : over chunks Φ = all Φ :=
  (bigSep_univ_eq_bigSepL chunks (by decide) (by decide) Φ).symm

theorem all_mono {ι : Type} (s : Finset ι) {Φ Ψ : ι → sProp 𝕄} (h : ∀ i, Φ i ⊢ Ψ i) : bigSep s Φ ⊢ bigSep s Ψ :=
  bigSep_mono fun i _ => h i

theorem all4 (A B C D : Fin 8 → sProp 𝕄) :
    all (fun k => iprop(A k ∗ B k ∗ C k ∗ D k)) = iprop(all A ∗ all B ∗ all C ∗ all D) := by
  rw [all, bigSep_sep', bigSep_sep', bigSep_sep']

theorem all5 (A B C D E : Fin 8 → sProp 𝕄) :
    all (fun k => iprop(A k ∗ B k ∗ C k ∗ D k ∗ E k)) = iprop(all A ∗ all B ∗ all C ∗ all D ∗ all E) := by
  rw [all, bigSep_sep', bigSep_sep', bigSep_sep', bigSep_sep']

theorem bools (Φ : Bool → sProp 𝕄) : bigSep Finset.univ Φ = iprop(Φ false ∗ Φ true) := by
  rw [show (Finset.univ : Finset Bool) = {false, true} by decide, bigSep_insert (by decide), bigSep_singleton]; rfl

/-- A family over the stages and chunks, stage by stage; -/
theorem stages (Φ : Fin 2 × Fin 8 → sProp 𝕄) :
    bigSep Finset.univ Φ = iprop(all (fun k => Φ (0, k)) ∗ all (fun k => Φ (1, k))) := by
  rw [bigSep_univ_prod, bigSep_fin_two]; rfl

/-- and one over the copies' semaphores. -/
theorem sems (Φ : Ch → sProp 𝕄) :
    bigSep Finset.univ Φ = iprop((all (fun k => Φ (false, 0, k)) ∗ all (fun k => Φ (false, 1, k)))
      ∗ all (fun k => Φ (true, 0, k)) ∗ all (fun k => Φ (true, 1, k))) := by
  rw [bigSep_univ_prod, bools, stages, stages]

/-- A persistent fact beside a family, used at every member. -/
theorem all_with {ι : Type} (s : Finset ι) (R : sProp 𝕄) [BI.Persistent R] (Φ Ψ : ι → sProp 𝕄)
    (h : ∀ i, iprop(R ∗ Φ i) ⊢ Ψ i) : iprop(R ∗ bigSep s Φ) ⊢ bigSep s Ψ := by
  classical
  induction s using Finset.induction_on with
  | empty =>
    rw [bigSep_empty, bigSep_empty]
    iintro ⟨-, H⟩
    iexact H
  | insert i s hi ih =>
    rw [show bigSep (insert i s) Φ = iprop(Φ i ∗ bigSep s Φ) from bigSep_insert hi,
      show bigSep (insert i s) Ψ = iprop(Ψ i ∗ bigSep s Ψ) from bigSep_insert hi]
    iintro ⟨#HR, Hi, Hs⟩
    isplitl [Hi]
    · iapply (h i)
      isplitr; · iexact HR
      iexact Hi
    · iapply ih
      isplitr; · iexact HR
      iexact Hs

/-- A round over all chunks. -/
theorem round_run (c : Dev nD) (f : Fin 8 → PR F PUnit) (R : sProp 𝕄) (P Q : Fin 8 → sProp 𝕄)
    (O : List (Fin 8) → CellTallies nD τ sig Unit)
    (h : ∀ k l (Kt : PUnit → sProp 𝕄),
      iprop(P k ∗ R ∗ owesE c (O (k :: l))) ⊢ iprop((Q k ∗ R ∗ owesE c (O l) -∗ Kt ⟨⟩) -∗ run c (f k) Kt))
    (Kt : PUnit → sProp 𝕄) :
    iprop(all P ∗ R ∗ owesE c (O chunks)) ⊢ iprop((all Q ∗ R ∗ owesE c (O []) -∗ Kt ⟨⟩) -∗ run c (each chunks f) Kt) := by
  rw [← over_chunks, ← over_chunks]
  exact each_run c f R P Q O h chunks Kt

/-! ## The barrier -/

/-- A device's receive buffer, chunk by chunk, each with the word that its semaphore is open: what the barrier signals
    hand out. -/
def give (c : Dev nD) : sProp 𝕄 :=
  bigSep (Finset.univ : Finset (Fin 2 × Fin 8)) fun j => iprop(rAny j.1 c j.2 ∗ reached ER (rCell j.1 c j.2) 0)

theorem barToks_eq (c : Dev nD) : (barToks c : sProp 𝕄)
    = iprop((reached ER (barCell (peerW false c)) 0 ∗ dutyTok ER (barCell (peerW false c)) 0 false)
      ∗ reached ER (barCell (peerW true c)) 0 ∗ dutyTok ER (barCell (peerW true c)) 0 true) := by
  unfold barToks; exact bools _

theorem give_intro (c : Dev nD) :
    iprop((bigSep (Finset.univ : Finset (Fin 2 × Fin 8)) fun j => rAny j.1 c j.2)
      ∗ bigSep (Finset.univ : Finset (Fin 2 × Fin 8)) fun j => reached ER (rCell j.1 c j.2) 0) ⊢ (give c : sProp 𝕄) := by
  unfold give; exact Entails.of_eq (bigSep_sep' _ _ _).symm

theorem give_split (c : Dev nD) :
    (give c : sProp 𝕄) = iprop(barPay (peerW false c) false ∗ barPay (peerW true c) true) := by
  unfold give barPay
  rw [bigSep_filter_split _ (fun j : Fin 2 × Fin 8 => via j.1 j.2 = false), peer_peer, peer_peer]
  have h : (Finset.univ.filter fun j : Fin 2 × Fin 8 => ¬ via j.1 j.2 = false) = Finset.univ.filter fun j => via j.1 j.2 = true := by
    decide
  rw [h]; rfl

/-- What the two partners' signals bring: of every chunk, the partner's part of its receive buffer. -/
theorem take_join (c : Dev nD) :
    (iprop(barPay c false ∗ barPay c true) : sProp 𝕄)
      = bigSep (Finset.univ : Finset (Fin 2 × Fin 8)) fun j =>
          iprop(rAny j.1 (peerW (via j.1 j.2) c) j.2 ∗ reached ER (rCell j.1 (peerW (via j.1 j.2) c) j.2) 0) := by
  have hb : ∀ b, (barPay c b : sProp 𝕄) = bigSep (Finset.univ.filter fun j : Fin 2 × Fin 8 => via j.1 j.2 = b) fun j =>
      iprop(rAny j.1 (peerW (via j.1 j.2) c) j.2 ∗ reached ER (rCell j.1 (peerW (via j.1 j.2) c) j.2) 0) := by
    intro b
    unfold barPay
    refine bigSep_congr fun j hj => ?_
    rw [(Finset.mem_filter.mp hj).2]
  have h : (Finset.univ.filter fun j : Fin 2 × Fin 8 => ¬ via j.1 j.2 = false) = Finset.univ.filter fun j => via j.1 j.2 = true := by
    decide
  rw [hb, hb, bigSep_filter_split Finset.univ (fun j : Fin 2 × Fin 8 => via j.1 j.2 = false), h]; rfl

theorem signal_step (I : Dev nD → Ins F) (K : GSem nD τ sig → ℕ) (b : Bool) (c : Dev nD) (O : CellTallies nD τ sig Unit)
    (Kt : PUnit → sProp 𝕄) :
    iprop(invs I K ∗ barPay (peerW b c) b ∗ reached ER (barCell (peerW b c)) 0 ∗ dutyTok ER (barCell (peerW b c)) 0 b
        ∗ owesE c (O + tallyAt (barCell (peerW b c)) () 1))
      ⊢ iprop((owesE c O -∗ Kt ⟨⟩) -∗ run c (semSignalWord (peerW b c) bSem 1#32) Kt) := by
  iintro ⟨#HI, Hp, #Hr, Ht, ⟨%W, HO⟩⟩ HK
  iapply (Rounds.wp_signal 𝒱₀ ER (talkRd I) (c : Thread nD τ) none (dst := (peerW b c : Thread nD τ)) (sem := bSem) (r := 0) (d := b)
      (κ := K (barCell (peerW b c))) (k' := 1) (mem_bar I (peerW b c) b) (amount_bar I (peerW b c) b) () O rfl (W := W)) $$ [Hp Ht HO]
  · isplitr; · iapply (inv_at I K (peerW b c) none); iexact HI
    isplitl [HO]; · iexact HO
    isplitl [Ht]; · iexact Ht
    isplitl [Hp]
    · have h : ((talkRd I).payload ((peerW b c : Thread nD τ), .reg bSem) 0 b : sProp 𝕄) = barPay (peerW b c) b := payload_bar I (peerW b c) b
      rw [h]; iexact Hp
    iexact Hr
  iintro HO
  iapply run_ret
  iapply HK
  iexists W; iexact HO

theorem wait_step (I : Dev nD → Ins F) (K : GSem nD τ sig → ℕ) (c : Dev nD) (Kt : PUnit → sProp 𝕄) :
    iprop(invs I K ∗ levAts L lv ∗ cred (tallyAt (barCell c) () 2) ∗ atPos ER (barCell c) 0 ∅ 0
        ∗ owesE c (dueL 1 c chunks + dueL 0 c chunks))
      ⊢ iprop(((barPay c false ∗ barPay c true) ∗ atPos ER (barCell c) (0 + 1) ∅ 0 ∗ owesE c (dueL 1 c chunks + dueL 0 c chunks) -∗ Kt ⟨⟩)
          -∗ run c (semWaitWord bSem 2#32) Kt) := by
  iintro ⟨#HI, #HL, Hc, Hat, ⟨%W, HO⟩⟩ HK
  iapply (Rounds.wp_wait_rest_token 𝒱₀ ER (talkRd I) (c : Thread nD τ) none (κ := K (barCell c)) (sm := .reg bSem) (k' := 2)
      (wpE_semWait_eq 𝒱₀ (c : Thread nD τ) none Set.univ) (Set.mem_univ _) () (O := dueL 1 c chunks + dueL 0 c chunks) (W := W) (R := 0) (m := 0) (T := ∅)
      ((Nat.zero_add _).trans (expect_bar I c).symm)) $$ [Hc HO Hat]
  · isplitr; · iapply (inv_at I K c none); iexact HI
    isplitl [Hc]; · iexact Hc
    isplitl [HO]; · iexact HO
    isplitr; · iapply (mayWait_bar c); iexact HL
    iexact Hat
  iintro ⟨HO, Hat, -, Hpay⟩
  have hr : (bigSep ((talkRd I).duties ((c : Thread nD τ), .reg bSem) 0 \ ∅)
      (fun b => (talkRd I).payload ((c : Thread nD τ), .reg bSem) 0 b) : sProp 𝕄) = iprop(barPay c false ∗ barPay c true) := rest_bar I c
  ihave Hp := (Entails.of_eq hr) $$ Hpay
  iapply run_ret
  iapply HK
  isplitl [Hp]; · iexact Hp
  isplitl [Hat]; · iexact Hat
  iexists _; iexact HO

/-! ## Closing the cells -/

theorem close_all (I : Dev nD → Ins F) (K : GSem nD τ sig → ℕ) (c : Dev nD) :
    iprop(invs I K ∗ bigSep (Finset.univ : Finset Ch) fun j => atPos ER (cell c (some j)) (0 + 1) ∅ 0)
      ⊢ (|={Set.univ}=> bigSep (Finset.univ : Finset Ch) fun j => semVal (cell c (some j)) 0 : sProp 𝕄) := by
  refine (all_with Finset.univ (invs I K) _ (fun j => iprop(|={Set.univ}=> semVal (cell c (some j)) 0)) fun j => ?_).trans
    (bigSep_fupd _ _)
  iintro ⟨#HI, H⟩
  iapply (close I (K (cell c (some j))) (cell c (some j)))
  isplitr; · iapply (inv_at I K c (some j)); iexact HI
  iexact H

theorem run_fupd {α : Type} (c : Dev nD) (p : PR F α) (Q : α → sProp 𝕄) :
    run c p (fun a => iprop(|={Set.univ}=> Q a)) ⊢ run c p Q := wp_fupd _ _ _ _ _

/-! ## The body -/

/-- The seven inputs, as the body finds them. -/
def insAt (I : Dev nD → Ins F) (c : Dev nD) : sProp 𝕄 :=
  iprop((((c : Thread nD τ).loc cc0_stg0_0) ↦{fullShare} ((I c).x : Vec F S2x256x768 .bf16))
    ∗ (((c : Thread nD τ).loc cc0_stg1_0) ↦{fullShare} ((I c).wq : Vec F S768x256 .bf16))
    ∗ (((c : Thread nD τ).loc cc0_stg2_0) ↦{fullShare} ((I c).wk : Vec F S768x256 .bf16))
    ∗ (((c : Thread nD τ).loc cc0_stg3_0) ↦{fullShare} ((I c).wv : Vec F S768x256 .bf16))
    ∗ woAt c (I c).wo
    ∗ (((c : Thread nD τ).loc cc0_stg5_0) ↦{fullShare} ((I c).cos : Vec F S512x256 .bf16))
    ∗ (((c : Thread nD τ).loc cc0_stg6_0) ↦{fullShare} ((I c).sin : Vec F S512x256 .bf16)))

/-- What the body starts from: -/
def bodyPre (I : Dev nD → Ins F) (K : GSem nD τ sig → ℕ) (c : Dev nD) : sProp 𝕄 :=
  iprop(invs I K ∗ levAts L lv ∗ atPos ER (barCell c) 0 ∅ 0 ∗ openCells c ∗ barToks c ∗ copyToks c ∗ creds c
    ∗ all (fun k => sAny c k) ∗ (bigSep (Finset.univ : Finset (Fin 2 × Fin 8)) fun j => rAny j.1 c j.2)
    ∗ all (fun k => oAny c k) ∗ insAt I c ∗ owesE c (O₀ c))

/-- and what it leaves. -/
def bodyPost (I : Dev nD → Ins F) (c : Dev nD) : sProp 𝕄 :=
  iprop(semVal (barCell c) 0 ∗ (bigSep (Finset.univ : Finset Ch) fun j => semVal (cell c (some j)) 0)
    ∗ all (fun k => sAny c k) ∗ (bigSep (Finset.univ : Finset (Fin 2 × Fin 8)) fun j => rAny j.1 c j.2)
    ∗ all (fun k => oAt c k (outv I c k)) ∗ insAt I c ∗ owesE c 0)

/-- The cells' openings, taken apart: the positions, and the words that they are open. -/
theorem open_split (c : Dev nD) :
    (openCells c : sProp 𝕄) ⊢ iprop((bigSep (Finset.univ : Finset Ch) fun j => atPos ER (cell c (some j)) 0 ∅ 0)
      ∗ bigSep (Finset.univ : Finset Ch) fun j => reached ER (cell c (some j)) 0) := by
  unfold openCells; exact Entails.of_eq (bigSep_sep' _ _ _)

/-- Everything that the copies need, from the partners' chunks and the tokens. -/
theorem kits (c : Dev nD) :
    iprop((bigSep (Finset.univ : Finset (Fin 2 × Fin 8)) fun j =>
          iprop(rAny j.1 (peerW (via j.1 j.2) c) j.2 ∗ reached ER (rCell j.1 (peerW (via j.1 j.2) c) j.2) 0))
        ∗ copyToks c ∗ bigSep (Finset.univ : Finset (Fin 2 × Fin 8)) fun j => reached ER (sCell j.1 c j.2) 0)
      ⊢ (bigSep (Finset.univ : Finset (Fin 2 × Fin 8)) fun j => sendKit j.1 c j.2 : sProp 𝕄) := by
  unfold copyToks
  rw [← bigSep_sep', ← bigSep_sep']
  refine all_mono _ fun j => ?_
  unfold sendKit
  iintro ⟨⟨Hr, #HrR⟩, ⟨HtR, HtS⟩, #HrS⟩
  isplitl [Hr]; · iexact Hr
  isplitl [HtR]; · iexact HtR
  isplitl [HtS]; · iexact HtS
  isplitr; · iexact HrR
  iexact HrS

/-- The three rounds. -/
theorem rounds_run (I : Dev nD → Ins F) (K : GSem nD τ sig → ℕ) (c : Dev nD) (i : Vec F S256x768 .bf16 → Ins F)
    (hi : i (I c).wo = I c) (Kt : PUnit → sProp 𝕄) :
    iprop(invs I K ∗ levAts L lv ∗ woAt c (I c).wo
        ∗ (bigSep (Finset.univ : Finset Ch) fun j => atPos ER (cell c (some j)) 0 ∅ 0)
        ∗ (bigSep (Finset.univ : Finset (Fin 2 × Fin 8)) fun j => sendKit j.1 c j.2)
        ∗ (bigSep (Finset.univ : Finset (Fin 2 × Fin 8)) fun j => cred (tallyAt (rCell j.1 c j.2) () N))
        ∗ all (fun k => sAny c k) ∗ all (fun k => oAny c k) ∗ owesE c (dueL 1 c chunks + dueL 0 c chunks))
      ⊢ iprop((woAt c (I c).wo ∗ (bigSep (Finset.univ : Finset Ch) fun j => atPos ER (cell c (some j)) (0 + 1) ∅ 0)
          ∗ all (fun k => sAny c k) ∗ (bigSep (Finset.univ : Finset (Fin 2 × Fin 8)) fun j => rAny j.1 c j.2)
          ∗ all (fun k => oAt c k (outv I c k)) ∗ owesE c 0 -∗ Kt ⟨⟩) -∗ run c (rounds c i) Kt) := by
  unfold rounds
  rw [sems, sems, stages, stages, stages]
  iintro ⟨#HI, #HL, Hw, ⟨⟨HaS0, HaS1⟩, HaR0, HaR1⟩, ⟨Hk0, Hk1⟩, ⟨Hc0, Hc1⟩, Hs, Ho, HO⟩ HK
  iapply run_bind
  iapply (round_run c _ (iprop(invs I K ∗ woAt c (I c).wo)) (fun k => makePre c k) (fun k => makePost c k)
    (fun l => dueL 1 c chunks + dueL 0 c l) (fun k l Kt => make_run I K c k l i (I c).wo hi Kt) _) $$ [Hs Hk0 Hw HO]
  · isplitl [Hs Hk0]
    · iapply (Entails.of_eq (bigSep_sep' Finset.univ (fun k => sAny c k) (fun k => sendKit 0 c k)).symm)
      isplitl [Hs]; · iexact Hs
      iexact Hk0
    isplitl [Hw]
    · isplitr; · iexact HI
      iexact Hw
    iexact HO
  iintro ⟨HcS, ⟨-, Hw⟩, HO⟩
  iapply run_bind
  iapply (round_run c _ (iprop(invs I K ∗ levAts L lv)) (fun k => addPre c k) (fun k => addPost c k)
    (fun l => dueL 1 c l) (fun k l Kt => add_run I K c k l Kt) _) $$ [HcS Hc0 HaS0 HaR0 Hk1 HO]
  · isplitl [HcS Hc0 HaS0 HaR0 Hk1]
    · iapply (Entails.of_eq (all5 (fun k => makePost c k) (fun k => cred (tallyAt (rCell 0 c k) () N))
        (fun k => atPos ER (sCell 0 c k) 0 ∅ 0) (fun k => atPos ER (rCell 0 c k) 0 ∅ 0) (fun k => sendKit 1 c k)).symm)
      isplitl [HcS]; · iexact HcS
      isplitl [Hc0]; · iexact Hc0
      isplitl [HaS0]; · iexact HaS0
      isplitl [HaR0]; · iexact HaR0
      iexact Hk1
    isplitr
    · isplitr; · iexact HI
      iexact HL
    rw [show dueL 1 c chunks + dueL 0 c [] = dueL 1 c chunks from add_zero _]
    iexact HO
  rw [show all (fun k => addPost (F := F) c k) = _ from all4 (fun k => cred (tallyAt (sCell 1 c k) () N)) (fun k => rAny 0 c k)
    (fun k => atPos ER (sCell 0 c k) (0 + 1) ∅ 0) (fun k => atPos ER (rCell 0 c k) (0 + 1) ∅ 0)]
  iintro ⟨⟨HcS, Hr0, HaS0, HaR0⟩, -, HO⟩
  iapply (round_run c _ (invs I K) (fun k => finPre c k) (fun k => finPost I c k)
    (fun _ => 0) (fun k _ Kt => finish_run I K c k Kt) _) $$ [HcS Hc1 HaS1 HaR1 Ho HO]
  · isplitl [HcS Hc1 HaS1 HaR1 Ho]
    · iapply (Entails.of_eq (all5 (fun k => cred (tallyAt (sCell 1 c k) () N)) (fun k => cred (tallyAt (rCell 1 c k) () N))
        (fun k => atPos ER (sCell 1 c k) 0 ∅ 0) (fun k => atPos ER (rCell 1 c k) 0 ∅ 0) (fun k => oAny c k)).symm)
      isplitl [HcS]; · iexact HcS
      isplitl [Hc1]; · iexact Hc1
      isplitl [HaS1]; · iexact HaS1
      isplitl [HaR1]; · iexact HaR1
      iexact Ho
    isplitr; · iexact HI
    iexact HO
  rw [show all (fun k => finPost I c k) = _ from all5 (fun k => oAt c k (outv I c k)) (fun k => sAny c k) (fun k => rAny 1 c k)
    (fun k => atPos ER (sCell 1 c k) (0 + 1) ∅ 0) (fun k => atPos ER (rCell 1 c k) (0 + 1) ∅ 0)]
  iintro ⟨⟨Ho, Hs, Hr1, HaS1, HaR1⟩, -, HO⟩
  iapply HK
  isplitl [Hw]; · iexact Hw
  isplitl [HaS0 HaS1 HaR0 HaR1]
  · isplitl [HaS0 HaS1]
    · isplitl [HaS0]; · iexact HaS0
      iexact HaS1
    · isplitl [HaR0]; · iexact HaR0
      iexact HaR1
  isplitl [Hs]; · iexact Hs
  isplitl [Hr0 Hr1]
  · isplitl [Hr0]; · iexact Hr0
    iexact Hr1
  isplitl [Ho]; · iexact Ho
  iexact HO

theorem body_run (I : Dev nD → Ins F) (K : GSem nD τ sig → ℕ) (c : Dev nD) (Kt : PUnit → sProp 𝕄) :
    bodyPre I K c ⊢ iprop((bodyPost I c -∗ Kt ⟨⟩) -∗ run c body Kt) := by
  unfold bodyPre body bodyPost insAt
  iintro ⟨#HI, #HL, HaB, Hopen, HtB, HtC, Hcr, Hs, Hr, Ho, ⟨Hx, Hwq, Hwk, Hwv, Hwo, Hcos, Hsin⟩, HO⟩ HK
  ihave Hop := (open_split c) $$ Hopen
  icases Hop with ⟨Hat, #Hrch⟩
  ihave Hrch' := (Entails.of_eq (sems fun j => reached ER (cell c (some j)) 0)) $$ Hrch
  icases Hrch' with ⟨⟨#HrS0, #HrS1⟩, #HrR0, #HrR1⟩
  unfold creds
  icases Hcr with ⟨HcB, HcR⟩
  ihave HtB' := (Entails.of_eq (barToks_eq c)) $$ HtB
  icases HtB' with ⟨⟨#HbF, HtF⟩, #HbT, HtT⟩
  ihave Hg := (give_intro c) $$ [Hr]
  · isplitl [Hr]; · iexact Hr
    rw [stages]
    isplitr; · iexact HrR0
    iexact HrR1
  ihave Hg' := (Entails.of_eq (give_split c)) $$ Hg
  icases Hg' with ⟨HgF, HgT⟩
  iapply run_bind
  iapply (Entails.of_eq (wp_deviceId 𝒱₀ (c : Thread nD τ) none Set.univ).symm)
  iapply run_ret
  iapply run_bind
  iapply (signal_step I K false c (dueL 1 c chunks + dueL 0 c chunks + tallyAt (barCell (peerW true c)) () 1) _) $$ [HgF HtF HO]
  · isplitr; · iexact HI
    isplitl [HgF]; · iexact HgF
    isplitr; · iexact HbF
    isplitl [HtF]; · iexact HtF
    iexact HO
  iintro HO
  iapply run_bind
  iapply (signal_step I K true c (dueL 1 c chunks + dueL 0 c chunks) _) $$ [HgT HtT HO]
  · isplitr; · iexact HI
    isplitl [HgT]; · iexact HgT
    isplitr; · iexact HbT
    isplitl [HtT]; · iexact HtT
    iexact HO
  iintro HO
  iapply run_bind
  iapply (wait_step I K c _) $$ [HcB HaB HO]
  · isplitr; · iexact HI
    isplitr; · iexact HL
    isplitl [HcB]; · iexact HcB
    isplitl [HaB]; · iexact HaB
    iexact HO
  iintro ⟨Hp, HaB, HO⟩
  ihave Hp' := (Entails.of_eq (take_join c)) $$ Hp
  ihave Hk := (kits c) $$ [Hp' HtC]
  · isplitl [Hp']; · iexact Hp'
    isplitl [HtC]; · iexact HtC
    rw [stages]
    isplitr; · iexact HrS0
    iexact HrS1
  iapply run_bind
  iapply (load_whole c (Memref.whole cc0_stg0_0 : Memref sig .tc .vmem S2x256x768 .bf16)
    (r := (Rect.unit (s := S2x256x768) ![0, 0, 0] S2x256x768.size inb_S2x256x768_S2x256x768_0_0_0).toLoadRect)
    (View.loadsAt_vmem h_S2x256x768) _ (I c).x (readAt_all cc0_stg0_0 ![0, 0, 0] inb_S2x256x768_S2x256x768_0_0_0 (by decide) _) _) $$ Hx
  iintro Hx
  iapply run_bind
  iapply (load_whole c (Memref.whole cc0_stg1_0 : Memref sig .tc .vmem S768x256 .bf16)
    (r := (Rect.unit (s := S768x256) ![0, 0] S768x256.size inb_S768x256_S768x256_0_0).toLoadRect)
    (View.loadsAt_vmem h_S768x256) _ (I c).wq (readAt_all cc0_stg1_0 ![0, 0] inb_S768x256_S768x256_0_0 (by decide) _) _) $$ Hwq
  iintro Hwq
  iapply run_bind
  iapply (load_whole c (Memref.whole cc0_stg2_0 : Memref sig .tc .vmem S768x256 .bf16)
    (r := (Rect.unit (s := S768x256) ![0, 0] S768x256.size inb_S768x256_S768x256_0_0).toLoadRect)
    (View.loadsAt_vmem h_S768x256) _ (I c).wk (readAt_all cc0_stg2_0 ![0, 0] inb_S768x256_S768x256_0_0 (by decide) _) _) $$ Hwk
  iintro Hwk
  iapply run_bind
  iapply (load_whole c (Memref.whole cc0_stg3_0 : Memref sig .tc .vmem S768x256 .bf16)
    (r := (Rect.unit (s := S768x256) ![0, 0] S768x256.size inb_S768x256_S768x256_0_0).toLoadRect)
    (View.loadsAt_vmem h_S768x256) _ (I c).wv (readAt_all cc0_stg3_0 ![0, 0] inb_S768x256_S768x256_0_0 (by decide) _) _) $$ Hwv
  iintro Hwv
  iapply run_bind
  iapply (load_whole c (Memref.whole cc0_stg5_0 : Memref sig .tc .vmem S512x256 .bf16)
    (r := (Rect.unit (s := S512x256) ![0, 0] S512x256.size inb_S512x256_S512x256_0_0).toLoadRect)
    (View.loadsAt_vmem h_S512x256) _ (I c).cos (readAt_all cc0_stg5_0 ![0, 0] inb_S512x256_S512x256_0_0 (by decide) _) _) $$ Hcos
  iintro Hcos
  iapply run_bind
  iapply (load_whole c (Memref.whole cc0_stg6_0 : Memref sig .tc .vmem S512x256 .bf16)
    (r := (Rect.unit (s := S512x256) ![0, 0] S512x256.size inb_S512x256_S512x256_0_0).toLoadRect)
    (View.loadsAt_vmem h_S512x256) _ (I c).sin (readAt_all cc0_stg6_0 ![0, 0] inb_S512x256_S512x256_0_0 (by decide) _) _) $$ Hsin
  iintro Hsin
  iapply (run_fupd c _ _)
  iapply (rounds_run I K c _ rfl _) $$ [Hwo Hat Hk HcR Hs Ho HO]
  · isplitr; · iexact HI
    isplitr; · iexact HL
    isplitl [Hwo]; · iexact Hwo
    isplitl [Hat]; · iexact Hat
    isplitl [Hk]; · iexact Hk
    isplitl [HcR]; · iexact HcR
    isplitl [Hs]; · iexact Hs
    isplitl [Ho]; · iexact Ho
    iexact HO
  iintro ⟨Hwo, Hat, Hs, Hr, Ho, HO⟩
  imod (close I (K (barCell c)) (barCell c)) $$ [HaB] with Hb0
  · isplitr; · iapply (inv_at I K c none); iexact HI
    iexact HaB
  imod (close_all I K c) $$ [Hat] with Hs0
  · isplitr; · iexact HI
    iexact Hat
  imodintro
  iapply HK
  isplitl [Hb0]; · iexact Hb0
  isplitl [Hs0]; · iexact Hs0
  isplitl [Hs]; · iexact Hs
  isplitl [Hr]; · iexact Hr
  isplitl [Ho]; · iexact Ho
  isplitr [HO]
  · isplitl [Hx]; · iexact Hx
    isplitl [Hwq]; · iexact Hwq
    isplitl [Hwk]; · iexact Hwk
    isplitl [Hwv]; · iexact Hwv
    isplitl [Hwo]; · iexact Hwo
    isplitl [Hcos]; · iexact Hcos
    iexact Hsin
  iexact HO

end Cert.KernelIdeal.Talk
-- ==== Proof.Split.lean ====
/-
  A device's scratch buffers and its output, cut into the eight chunks and put together again: the families over the chunks
  that `body_run` works on are the whole buffers that the launch hands over.
-/
module

public import proofs.«01_k».proof.Proof.Body
public import Idealize.ShloMosaic.Lib.Ring
public import Idealize.ShloMosaic.Lib.ValueLayout

@[expose] public section

set_option maxRecDepth 65536

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Ring Idealize.ShloMosaic.ValueIdx
open Cert.KernelIdeal Cert.KernelIdeal.Gen

variable {F : FTy → Type} [FloatOps F]

local notation "𝕄" => MT nD τ sig Unit (Elt F) ℕ UU ℕ

/-- A buffer of a device's core, whole, at contents `f`. -/
abbrev whole (c : Dev nD) (b : Ref sig .tc) (f : Buf (Elt F) ((c : Thread nD τ).loc b)) : sProp 𝕄 :=
  ((c : Thread nD τ).loc b) ↦{fullShare} f

/-! ## The chunks' element sets: pairwise disjoint, and together everything -/

theorem sends_disjoint (k k' : Fin 8) (h : k ≠ k') : Disjoint (sRect k).set (sRect k').set := by
  rw [Finset.disjoint_left]
  intro i hi hi'
  have h1 := (Rect.mem_set_unit.mp hi) 0
  have h2 := (Rect.mem_set_unit.mp hi') 0
  have e1 : k.val ≤ (i 0).val ∧ (i 0).val < k.val + 1 := h1
  have e2 : k'.val ≤ (i 0).val ∧ (i 0).val < k'.val + 1 := h2
  exact h (Fin.ext (by omega))

theorem sends_cover : Finset.univ.biUnion (fun k : Fin 8 => (sRect k).set) = Finset.univ := by
  ext i
  simp only [Finset.mem_biUnion, Finset.mem_univ, true_and, iff_true]
  refine ⟨(i 0 : Fin 8), Rect.mem_set_unit.mpr fun a => ?_⟩
  match a with
  | 0 => exact ⟨Nat.le_refl _, Nat.lt_succ_self _⟩
  | 1 => exact ⟨Nat.zero_le _, by have := (i 1).isLt; show (i 1).val < 0 + 64; rw [Nat.zero_add]; exact this⟩
  | 2 => exact ⟨Nat.zero_le _, by have := (i 2).isLt; show (i 2).val < 0 + 768; rw [Nat.zero_add]; exact this⟩

theorem recvs_disjoint (j j' : Fin 2 × Fin 8) (h : j ≠ j') : Disjoint (rRect j.1 j.2).set (rRect j'.1 j'.2).set := by
  rw [Finset.disjoint_left]
  intro i hi hi'
  have a1 : j.1.val ≤ (i 0).val ∧ (i 0).val < j.1.val + 1 := (Rect.mem_set_unit.mp hi) 0
  have a2 : j'.1.val ≤ (i 0).val ∧ (i 0).val < j'.1.val + 1 := (Rect.mem_set_unit.mp hi') 0
  have b1 : j.2.val ≤ (i 1).val ∧ (i 1).val < j.2.val + 1 := (Rect.mem_set_unit.mp hi) 1
  have b2 : j'.2.val ≤ (i 1).val ∧ (i 1).val < j'.2.val + 1 := (Rect.mem_set_unit.mp hi') 1
  exact h (Prod.ext (Fin.ext (by omega)) (Fin.ext (by omega)))

theorem recvs_cover : Finset.univ.biUnion (fun j : Fin 2 × Fin 8 => (rRect j.1 j.2).set) = Finset.univ := by
  ext i
  simp only [Finset.mem_biUnion, Finset.mem_univ, true_and, iff_true]
  refine ⟨((i 0 : Fin 2), (i 1 : Fin 8)), Rect.mem_set_unit.mpr fun a => ?_⟩
  match a with
  | 0 => exact ⟨Nat.le_refl _, Nat.lt_succ_self _⟩
  | 1 => exact ⟨Nat.le_refl _, Nat.lt_succ_self _⟩
  | 2 => exact ⟨Nat.zero_le _, by have := (i 2).isLt; show (i 2).val < 0 + 64; rw [Nat.zero_add]; exact this⟩
  | 3 => exact ⟨Nat.zero_le _, by have := (i 3).isLt; show (i 3).val < 0 + 768; rw [Nat.zero_add]; exact this⟩

theorem outs_disjoint (k k' : Fin 8) (h : k ≠ k') : Disjoint (oRect k).set (oRect k').set := by
  rw [Finset.disjoint_left]
  intro i hi hi'
  have a1 : k.val / 4 ≤ (i 0).val ∧ (i 0).val < k.val / 4 + 1 := (Rect.mem_set_unit.mp hi) 0
  have a2 : k'.val / 4 ≤ (i 0).val ∧ (i 0).val < k'.val / 4 + 1 := (Rect.mem_set_unit.mp hi') 0
  have b1 : 64 * (k.val % 4) ≤ (i 1).val ∧ (i 1).val < 64 * (k.val % 4) + 64 := (Rect.mem_set_unit.mp hi) 1
  have b2 : 64 * (k'.val % 4) ≤ (i 1).val ∧ (i 1).val < 64 * (k'.val % 4) + 64 := (Rect.mem_set_unit.mp hi') 1
  exact h (Fin.ext (by omega))

/-- Which chunk an output element lies in, -/
def chunkOf (b : Fin 2) (r : Fin 256) : Fin 8 := ⟨4 * b.val + r.val / 64, by have := b.isLt; have := r.isLt; omega⟩
/-- and in which of its rows. -/
def rowOf (r : Fin 256) : Fin 64 := ⟨r.val % 64, Nat.mod_lt _ (by decide)⟩

theorem outs_mem (i : S2x256x768.Idx) : i ∈ (oRect (chunkOf (i 0) (i 1))).set := by
  have h0 : (i 0).val < 2 := (i 0).isLt
  have h1 : (i 1).val < 256 := (i 1).isLt
  have h2 : (i 2).val < 768 := (i 2).isLt
  refine Rect.mem_set_unit.mpr fun a => ?_
  match a with
  | 0 =>
    show (4 * (i 0).val + (i 1).val / 64) / 4 ≤ (i 0).val ∧ (i 0).val < (4 * (i 0).val + (i 1).val / 64) / 4 + 1
    omega
  | 1 =>
    show 64 * ((4 * (i 0).val + (i 1).val / 64) % 4) ≤ (i 1).val ∧ (i 1).val < 64 * ((4 * (i 0).val + (i 1).val / 64) % 4) + 64
    omega
  | 2 =>
    show 0 ≤ (i 2).val ∧ (i 2).val < 0 + 768
    omega

theorem outs_cover : Finset.univ.biUnion (fun k : Fin 8 => (oRect k).set) = Finset.univ := by
  ext i
  simp only [Finset.mem_biUnion, Finset.mem_univ, true_and, iff_true]
  exact ⟨_, outs_mem i⟩

/-! ## The send buffer -/

theorem send_set (k : Fin 8) : (sv k).view.set = (sRect k).set := (sv_set k).trans (View.set_slice_whole _ _)

theorem send_split (c : Dev nD) : iprop(∃ f, whole (F := F) c cc0_scratch0 f) ⊢ all (fun k => sAny (F := F) c k) := by
  iintro ⟨%f, H⟩
  ihave H' := (Entails.of_eq (pointsTo_blocks (Ix := Unit) (Name := ℕ) (U := UU) (Lvl := ℕ) (q := fullShare)
    (fun k : Fin 8 => (sv k).view.set)
    (fun k k' h => by rw [send_set, send_set]; exact sends_disjoint k k' h)
    (by rw [Finset.biUnion_congr rfl fun k _ => send_set k]; exact sends_cover) f)) $$ H
  iapply (all_mono (F := F) Finset.univ (fun k : Fin 8 => by iintro H; iexists f; iexact H)) $$ H'

theorem send_join [∀ e, Nonempty (Elt F e)] (c : Dev nD) : all (fun k => sAny (F := F) c k) ⊢ iprop(∃ f, whole (F := F) c cc0_scratch0 f) :=
  pointsTo_blocks_join_exists (ℓ := (c : Thread nD τ).loc cc0_scratch0) (fun k : Fin 8 => (sv k).view.set)
    (fun k k' h => by rw [send_set, send_set]; exact sends_disjoint k k' h)
    (by rw [Finset.biUnion_congr rfl fun k _ => send_set k]; exact sends_cover)
    (fun _ => Classical.arbitrary _)

/-! ## The receive buffer -/

theorem recv_set (st : Fin 2) (k : Fin 8) : (rv st k).view.set = (rRect st k).set :=
  (View.set_reshape _ _).trans (View.set_slice_whole _ _)

theorem recv_split (c : Dev nD) :
    iprop(∃ f, whole (F := F) c cc0_scratch1 f) ⊢ bigSep Finset.univ (fun j : Fin 2 × Fin 8 => rAny (F := F) j.1 c j.2) := by
  iintro ⟨%f, H⟩
  ihave H' := (Entails.of_eq (pointsTo_blocks (Ix := Unit) (Name := ℕ) (U := UU) (Lvl := ℕ) (q := fullShare)
    (fun j : Fin 2 × Fin 8 => (rv j.1 j.2).view.set)
    (fun j j' h => by rw [recv_set, recv_set]; exact recvs_disjoint j j' h)
    (by rw [Finset.biUnion_congr rfl fun j _ => recv_set j.1 j.2]; exact recvs_cover) f)) $$ H
  iapply (all_mono (F := F) Finset.univ (fun j : Fin 2 × Fin 8 => by iintro H; iexists f; iexact H)) $$ H'

theorem recv_join [∀ e, Nonempty (Elt F e)] (c : Dev nD) :
    bigSep Finset.univ (fun j : Fin 2 × Fin 8 => rAny (F := F) j.1 c j.2) ⊢ iprop(∃ f, whole (F := F) c cc0_scratch1 f) :=
  pointsTo_blocks_join_exists (ℓ := (c : Thread nD τ).loc cc0_scratch1) (fun j : Fin 2 × Fin 8 => (rv j.1 j.2).view.set)
    (fun j j' h => by rw [recv_set, recv_set]; exact recvs_disjoint j j' h)
    (by rw [Finset.biUnion_congr rfl fun j _ => recv_set j.1 j.2]; exact recvs_cover)
    (fun _ => Classical.arbitrary _)

/-! ## The output -/

/-- What the whole output of device `c` holds at the end: each row what its chunk's sum holds there. -/
def result (I : Dev nD → Ins F) (c : Dev nD) : FVec F S2x256x768 .f32 := fun i =>
  outv I c (chunkOf (i 0) (i 1)) (ix2 (rowOf (i 1)) (i 2))

theorem out_set (k : Fin 8) : (ov k).set = (oRect k).set := View.set_slice_whole _ _

theorem out_split (c : Dev nD) : iprop(∃ f, whole (F := F) c cc0_stg7_0 f) ⊢ all (fun k => oAny (F := F) c k) := by
  iintro ⟨%f, H⟩
  ihave H' := (Entails.of_eq (pointsTo_blocks (Ix := Unit) (Name := ℕ) (U := UU) (Lvl := ℕ) (q := fullShare)
    (fun k : Fin 8 => (ov k).set)
    (fun k k' h => by rw [out_set, out_set]; exact outs_disjoint k k' h)
    (by rw [Finset.biUnion_congr rfl fun k _ => out_set k]; exact outs_cover) f)) $$ H
  iapply (all_mono (F := F) Finset.univ (fun k : Fin 8 => by iintro H; iexists f; iexact H)) $$ H'

/-- The element of the output at row `rowOf r` of its chunk, as the chunk's access names it. -/
theorem out_emb (i : S2x256x768.Idx) :
    (oRect (chunkOf (i 0) (i 1))).emb (ix3 (0 : Fin 1) (rowOf (i 1)) (i 2)) = i := by
  have h0 : (i 0).val < 2 := (i 0).isLt
  have h1 : (i 1).val < 256 := (i 1).isLt
  funext a
  refine Fin.ext ?_
  match a with
  | 0 =>
    show (4 * (i 0).val + (i 1).val / 64) / 4 + 1 * 0 = (i 0).val
    omega
  | 1 =>
    show 64 * ((4 * (i 0).val + (i 1).val / 64) % 4) + 1 * ((i 1).val % 64) = (i 1).val
    omega
  | 2 =>
    show 0 + 1 * (i 2).val = (i 2).val
    omega

theorem outs_unique {i : S2x256x768.Idx} {k : Fin 8} (h : i ∈ (oRect k).set) : k = chunkOf (i 0) (i 1) := by
  by_contra hne
  exact Finset.disjoint_left.mp (outs_disjoint _ _ hne) h (outs_mem i)

/-- A chunk of the output that holds its sum holds `result`. -/
theorem chunk_result (I : Dev nD → Ins F) (c : Dev nD) (k : Fin 8) (f : FVec F S2x256x768 .f32)
    (h : shapeCast S64x768 ((ov k).read (Elt F) f) shapeCasts_S1x64x768_S64x768 = outv I c k) :
    ∀ i ∈ (ov k).set, f i = result I c i := by
  intro i hi
  rw [out_set] at hi
  rw [outs_unique hi] at h
  unfold result
  rw [← h]
  refine Eq.trans ?_ (shapeCast_1ab_ab_apply (a := 64) (b := 768) _ _ _ _).symm
  show f i = f ((oRect (chunkOf (i 0) (i 1))).emb (ix3 (0 : Fin 1) (rowOf (i 1)) (i 2)))
  rw [out_emb]

theorem oAt_result (I : Dev nD → Ins F) (c : Dev nD) (k : Fin 8) :
    oAt c k (outv I c k) ⊢ (((c : Thread nD τ).loc cc0_stg7_0 ↦[(oRect k).set]{fullShare} (result I c : FVec F S2x256x768 .f32)) : sProp 𝕄) := by
  iintro ⟨%f, %h, H⟩
  iapply (Entails.of_eq ((pointsTo_congr (chunk_result I c k f h)).trans (by rw [out_set]))) $$ H

theorem out_blocks (c : Dev nD) (f : Buf (Elt F) ((c : Thread nD τ).loc cc0_stg7_0)) :
    (whole (F := F) c cc0_stg7_0 f : sProp 𝕄)
      = bigSep Finset.univ fun k : Fin 8 => (c : Thread nD τ).loc cc0_stg7_0 ↦[(oRect k).set]{fullShare} f :=
  pointsTo_blocks (ℓ := (c : Thread nD τ).loc cc0_stg7_0) (fun k : Fin 8 => (oRect k).set) outs_disjoint outs_cover f

theorem out_join (I : Dev nD → Ins F) (c : Dev nD) :
    all (fun k => oAt c k (outv I c k)) ⊢ whole (F := F) c cc0_stg7_0 (result I c) := by
  rw [out_blocks]
  exact all_mono (F := F) Finset.univ (oAt_result I c)

end Cert.KernelIdeal.Talk

end
-- ==== Proof.Region.lean ====
/-
  THE CALL as a segment of @main: what its windows hold, what enters and leaves its invariant, and that its body does what
  `body_run` says.
-/
module

public import proofs.«01_k».proof.Proof.Split
public import proofs.«01_k».proof.Proof.Gen.KernelIdeal.Frame
public import Idealize.ShloMosaic.Lib.Pipeline.RegionTalk
public import Idealize.ShloMosaic.Lib.Pipeline.ValueKit

@[expose] public section

set_option maxRecDepth 65536

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers before and after the call -/

/-- A device's buffers at launch, -/
def V₀ (c : Dev nD) : Valuation τ sig (Elt F) := fun b => m (c, b)
/-- after the host lines, -/
def V₁ (c : Dev nD) : Valuation τ sig (Elt F) := StableHlo.after hostOps0 (V₀ m c)

/-- What the call's operands hold on each device. -/
def ins (c : Dev nD) : Ins F where
  x := V₁ m c main_v32
  wq := V₁ m c main_v33
  wk := V₁ m c main_v34
  wv := V₁ m c main_v35
  wo := V₁ m c main_v36
  cos := V₁ m c main_v37
  sin := V₁ m c main_v38

/-- and after the call: the result array at `result`, every other buffer as it was. -/
def V₂ (c : Dev nD) : Valuation τ sig (Elt F) := Function.update (V₁ m c) main_v39 (result (ins m) c)

/-! ## The call's proof data -/

/-- Both scratch buffers at contents not said. -/
def scratch (c : Dev nD) : sProp 𝕄 :=
  iprop((∃ f, whole (F := F) c cc0_scratch0 f) ∗ ∃ f, whole (F := F) c cc0_scratch1 f)

/-- What the launch keeps for the call: the ghost state and the credits; -/
def Tk (c : Dev nD) : sProp 𝕄 := iprop((∃ K, ghost (ins m) K c) ∗ creds c)
/-- the same once the device has opened its cells, -/
def Xk (c : Dev nD) : sProp 𝕄 :=
  iprop((∃ K, invs (ins m) K ∗ atPos ER (barCell c) 0 ∅ 0 ∗ openCells c ∗ barToks c ∗ copyToks c) ∗ creds c ∗ levAts L lv)
/-- and what the call leaves: the barrier's counter at zero. -/
def Yk (c : Dev nD) : sProp 𝕄 := semVal (barCell c) 0

/-- The staged block of each window after the body: the inputs' as fetched, the output's at `result`. -/
def afterB (c : Dev nD) : (w : Fin cfg0.W) → Fin cfg0.N → (cfg0.win w).block.Idx → Elt F (cfg0.win w).elt
  | 0, _ => (ins m c).x
  | 1, _ => (ins m c).wq
  | 2, _ => (ins m c).wk
  | 3, _ => (ins m c).wv
  | 4, _ => (ins m c).wo
  | 5, _ => (ins m c).cos
  | 6, _ => (ins m c).sin
  | 7, _ => result (ins m) c
  | ⟨_ + 8, h⟩, _ => absurd h (Nat.not_lt.2 (Nat.le_add_left _ _))

def dat (c : Dev nD) : Dat τ (Elt F) Unit ℕ UU ℕ cfg0 c where
  A w := V₁ m c (Pipeline.arrRef spec0 w)
  after := afterB m c
  Φ t := if t.val = 0 then iprop(Xk m c ∗ scratch c ∗ ∃ r, prngReg c r)
    else iprop((semVal (barCell c) 0 ∗ bigSep (Finset.univ : Finset Ch) fun j => semVal (cell c (some j)) 0) ∗ scratch c ∗ ∃ r, prngReg c r)
  q _ := fullShare
  owed t := if t.val = 0 then O₀ c else 0

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c := fun _ => dat m

theorem owed_first (c : Dev nD) : (dat m c).owed t0_0.castSucc = O₀ c := rfl
theorem owed_zero (c : Dev nD) : (pdats m 0 c).owed 0 = O₀ c := rfl
theorem owed_last (c : Dev nD) : (pdats m 0 c).owed (Fin.last _) = 0 := rfl
theorem owed_succ (c : Dev nD) : (dat m c).owed t0_0.succ = 0 := rfl

theorem owes_in (c : Dev nD) : ((dat m c).owesAt () t0_0.castSucc : sProp 𝕄) ⊢ owesE c (O₀ c) := by
  unfold Dat.owesAt Pipeline.owesWithin
  rw [owed_first]
  iintro ⟨%W, -, HO⟩
  iexists W; iexact HO

theorem owes_out (c : Dev nD) : owesE c 0 ⊢ ((dat m c).owesAt () t0_0.succ : sProp 𝕄) := by
  unfold Dat.owesAt Pipeline.owesWithin Dat.bound
  rw [owed_succ]
  iintro ⟨%W, HO⟩
  iexists W
  isplitr
  · ipureintro; exact fun _ _ => Or.inl trivial
  iexact HO

/-! ## The body -/

/-- An input window's staging buffer holds its operand when the body starts. -/
theorem before_in (c : Dev nD) (w : Fin cfg0.W) (hw : (cfg0.win w).isOut = false)
    (hkeep : (cfg0.win w).cut (cfg0.grid.coords t0_0) ((dat m c).after w t0_0) = (dat m c).blockOf w t0_0)
    (hclip : ∀ a, (cfg0.win w).clip (cfg0.grid.coords t0_0) a = none) (d) :
    (dat m c).before w t0_0 d = (dat m c).after w t0_0 :=
  ((dat m c).before_in_eq_fetched w hw (fun _ => rfl) (fun t t' _ => by rw [fin_N0 t, fin_N0 t'])
    (fun t => by rw [fin_N0 t]; exact hkeep) t0_0 d).trans (by
    unfold Dat.fetched
    rw [← hkeep, Pipeline.fill_of_clip_none w _ hclip d ((dat m c).after w t0_0), Window.fill_cut])

/-- An index that is another plus nothing, coordinate by coordinate. -/
theorem idx_shift {s : Shape} (i j : s.Idx) (h : ∀ a, (i a).val = 0 + 1 * (j a).val) : j = i :=
  funext fun a => Fin.ext (((h a).trans (Nat.zero_add _)).trans (Nat.one_mul _)).symm

section
attribute [local irreducible] V₁ result

theorem before0 (c : Dev nD) (d) : (dat m c).before 0 t0_0 d = (ins m c).x :=
  before_in m c 0 rfl (funext fun j => congrArg (V₁ m c main_v32 : Vec F S2x256x768 .bf16)
    (idx_shift _ _ fun a => match a with | 0 => rfl | 1 => rfl | 2 => rfl)) (fun _ => rfl) d
theorem before1 (c : Dev nD) (d) : (dat m c).before 1 t0_0 d = (ins m c).wq :=
  before_in m c 1 rfl (funext fun j => congrArg (V₁ m c main_v33 : Vec F S768x256 .bf16)
    (idx_shift _ _ fun a => match a with | 0 => rfl | 1 => rfl)) (fun _ => rfl) d
theorem before2 (c : Dev nD) (d) : (dat m c).before 2 t0_0 d = (ins m c).wk :=
  before_in m c 2 rfl (funext fun j => congrArg (V₁ m c main_v34 : Vec F S768x256 .bf16)
    (idx_shift _ _ fun a => match a with | 0 => rfl | 1 => rfl)) (fun _ => rfl) d
theorem before3 (c : Dev nD) (d) : (dat m c).before 3 t0_0 d = (ins m c).wv :=
  before_in m c 3 rfl (funext fun j => congrArg (V₁ m c main_v35 : Vec F S768x256 .bf16)
    (idx_shift _ _ fun a => match a with | 0 => rfl | 1 => rfl)) (fun _ => rfl) d
theorem before4 (c : Dev nD) (d) : (dat m c).before 4 t0_0 d = (ins m c).wo :=
  before_in m c 4 rfl (funext fun j => congrArg (V₁ m c main_v36 : Vec F S256x768 .bf16)
    (idx_shift _ _ fun a => match a with | 0 => rfl | 1 => rfl)) (fun _ => rfl) d
theorem before5 (c : Dev nD) (d) : (dat m c).before 5 t0_0 d = (ins m c).cos :=
  before_in m c 5 rfl (funext fun j => congrArg (V₁ m c main_v37 : Vec F S512x256 .bf16)
    (idx_shift _ _ fun a => match a with | 0 => rfl | 1 => rfl)) (fun _ => rfl) d
theorem before6 (c : Dev nD) (d) : (dat m c).before 6 t0_0 d = (ins m c).sin :=
  before_in m c 6 rfl (funext fun j => congrArg (V₁ m c main_v38 : Vec F S512x256 .bf16)
    (idx_shift _ _ fun a => match a with | 0 => rfl | 1 => rfl)) (fun _ => rfl) d

end

/-- A staging buffer owned at a block is the buffer held at it. -/
theorem stage_owns (c : Dev nD) (b : Ref sig .tc) (f : b.ty.Contents (Elt F)) :
    (owns (c : Thread nD τ) (Memref.whole b) fullShare f : sProp 𝕄) = whole c b f := owns_whole _ _ _ _

theorem stage_any (c : Dev nD) (b : Ref sig .tc) {A : Type} (g : A → b.ty.Contents (Elt F)) (f : b.ty.Contents (Elt F)) (h : ∀ d, g d = f) :
    iprop(∃ d, owns (c : Thread nD τ) (Memref.whole b) fullShare (g d)) ⊢ (whole (F := F) c b f : sProp 𝕄) := by
  iintro ⟨%d, H⟩
  iapply (Entails.of_eq ((congrArg _ (h d)).trans (stage_owns (F := F) c b f))) $$ H

theorem stage_some (c : Dev nD) (b : Ref sig .tc) {A : Type} (g : A → b.ty.Contents (Elt F)) :
    iprop(∃ d, owns (c : Thread nD τ) (Memref.whole b) fullShare (g d)) ⊢ (iprop(∃ f, whole (F := F) c b f) : sProp 𝕄) := by
  iintro ⟨%d, H⟩
  iexists g d
  iapply (Entails.of_eq (stage_owns (F := F) c b (g d))) $$ H

/-- What the windows' staging buffers are when the body starts, -/
theorem staged_in (c : Dev nD) :
    (bigSep Finset.univ fun w : Fin cfg0.W => iprop(∃ d, owns (c : Thread nD τ) ((cfg0.win w).stage (cfg0.slots t0_0 w)) fullShare ((dat m c).before w t0_0 d)))
      ⊢ (iprop(insAt (ins m) c ∗ ∃ f, whole (F := F) c cc0_stg7_0 f) : sProp 𝕄) := by
  rw [bigSep_W0]
  unfold insAt
  iintro ⟨H0, H1, H2, H3, H4, H5, H6, H7⟩
  isplitr [H7]
  · isplitl [H0]; · iapply (stage_any (F := F) c cc0_stg0_0 _ _ (before0 m c)) $$ H0
    isplitl [H1]; · iapply (stage_any (F := F) c cc0_stg1_0 _ _ (before1 m c)) $$ H1
    isplitl [H2]; · iapply (stage_any (F := F) c cc0_stg2_0 _ _ (before2 m c)) $$ H2
    isplitl [H3]; · iapply (stage_any (F := F) c cc0_stg3_0 _ _ (before3 m c)) $$ H3
    isplitl [H4]; · iapply (stage_any (F := F) c cc0_stg4_0 _ _ (before4 m c)) $$ H4
    isplitl [H5]; · iapply (stage_any (F := F) c cc0_stg5_0 _ _ (before5 m c)) $$ H5
    iapply (stage_any (F := F) c cc0_stg6_0 _ _ (before6 m c)) $$ H6
  iapply (stage_some (F := F) c cc0_stg7_0 _) $$ H7

/-- and when it ends. -/
theorem staged_out (c : Dev nD) :
    iprop(insAt (ins m) c ∗ whole (F := F) c cc0_stg7_0 (result (ins m) c))
      ⊢ (bigSep Finset.univ fun w : Fin cfg0.W => owns (c : Thread nD τ) ((cfg0.win w).stage (cfg0.slots t0_0 w)) fullShare ((dat m c).after w t0_0) : sProp 𝕄) := by
  rw [bigSep_W0]
  unfold insAt
  iintro ⟨⟨H0, H1, H2, H3, H4, H5, H6⟩, H7⟩
  isplitl [H0]; · iapply (Entails.of_eq (stage_owns (F := F) c cc0_stg0_0 _).symm) $$ H0
  isplitl [H1]; · iapply (Entails.of_eq (stage_owns (F := F) c cc0_stg1_0 _).symm) $$ H1
  isplitl [H2]; · iapply (Entails.of_eq (stage_owns (F := F) c cc0_stg2_0 _).symm) $$ H2
  isplitl [H3]; · iapply (Entails.of_eq (stage_owns (F := F) c cc0_stg3_0 _).symm) $$ H3
  isplitl [H4]; · iapply (Entails.of_eq (stage_owns (F := F) c cc0_stg4_0 _).symm) $$ H4
  isplitl [H5]; · iapply (Entails.of_eq (stage_owns (F := F) c cc0_stg5_0 _).symm) $$ H5
  isplitl [H6]; · iapply (Entails.of_eq (stage_owns (F := F) c cc0_stg6_0 _).symm) $$ H6
  iapply (Entails.of_eq (stage_owns (F := F) c cc0_stg7_0 _).symm) $$ H7

/-- The body on what the call hands it. -/
theorem body_staged [∀ e, Nonempty (Elt F e)] (c : Dev nD) (Kt : PUnit → sProp 𝕄) :
    iprop(Xk m c ∗ scratch c ∗ owesE c (O₀ c) ∗ insAt (ins m) c ∗ ∃ f, whole (F := F) c cc0_stg7_0 f)
      ⊢ iprop((semVal (barCell c) 0 ∗ (bigSep (Finset.univ : Finset Ch) fun j => semVal (cell c (some j)) 0) ∗ scratch c ∗ owesE c 0
        ∗ insAt (ins m) c ∗ whole (F := F) c cc0_stg7_0 (result (ins m) c) -∗ Kt ⟨⟩) -∗ run c body Kt) := by
  unfold Xk scratch
  iintro ⟨⟨⟨%K, #HI, Ha, Ho, Hb, Hc⟩, Hcr, #HL⟩, ⟨Hs, Hr⟩, HO, Hin, Hout⟩ HK
  iapply (body_run (ins m) K c Kt) $$ [Ha Ho Hb Hc Hcr Hs Hr HO Hin Hout]
  · unfold bodyPre
    isplitr; · iexact HI
    isplitr; · iexact HL
    isplitl [Ha]; · iexact Ha
    isplitl [Ho]; · iexact Ho
    isplitl [Hb]; · iexact Hb
    isplitl [Hc]; · iexact Hc
    isplitl [Hcr]; · iexact Hcr
    isplitl [Hs]; · iapply (send_split (F := F) c) $$ Hs
    isplitl [Hr]; · iapply (recv_split (F := F) c) $$ Hr
    isplitl [Hout]; · iapply (out_split (F := F) c) $$ Hout
    isplitl [Hin]; · iexact Hin
    iexact HO
  unfold bodyPost
  iintro ⟨Hb, Hv, Hs, Hr, Hout, Hin, HO⟩
  iapply HK
  isplitl [Hb]; · iexact Hb
  isplitl [Hv]; · iexact Hv
  isplitl [Hs Hr]
  · isplitl [Hs]; · iapply (send_join (F := F) c) $$ Hs
    iapply (recv_join (F := F) c) $$ Hr
  isplitl [HO]; · iexact HO
  isplitl [Hin]; · iexact Hin
  iapply (out_join (ins m) c) $$ Hout

theorem body_ok [∀ e, Nonempty (Elt F e)] (c : Dev nD) : BodyObligation (dat m c) defs₀ 𝒱₀ () Set.univ := fun t => by
  obtain rfl := fin_N0 t
  show iprop((Xk m c ∗ scratch c ∗ ∃ r, prngReg c r) ∗ (dat m c).owesAt () t0_0.castSucc
      ∗ bigSep Finset.univ fun w : Fin cfg0.W => iprop(∃ d, owns (c : Thread nD τ) ((cfg0.win w).stage (cfg0.slots t0_0 w)) fullShare ((dat m c).before w t0_0 d)))
    ⊢ run c (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      cc0_scratch2 cc0_scratch3) fun _ =>
      iprop(((semVal (barCell c) 0 ∗ bigSep (Finset.univ : Finset Ch) fun j => semVal (cell c (some j)) 0) ∗ scratch c ∗ ∃ r, prngReg c r)
        ∗ (dat m c).owesAt () t0_0.succ
        ∗ bigSep Finset.univ fun w : Fin cfg0.W => owns (c : Thread nD τ) ((cfg0.win w).stage (cfg0.slots t0_0 w)) fullShare ((dat m c).after w t0_0))
  rw [body_eq]
  iintro ⟨⟨HX, Hs, Hp⟩, HO, Hw⟩
  ihave Hw' := (staged_in m c) $$ Hw
  ihave HO' := (owes_in m c) $$ HO
  icases Hw' with ⟨Hin, Hout⟩
  iapply (body_staged m c _) $$ [HX Hs HO' Hin Hout]
  · isplitl [HX]; · iexact HX
    isplitl [Hs]; · iexact Hs
    isplitl [HO']; · iexact HO'
    isplitl [Hin]; · iexact Hin
    iexact Hout
  iintro ⟨Hb, Hv, Hs, HO, Hin, Hout⟩
  isplitl [Hb Hv Hs Hp]
  · isplitl [Hb Hv]
    · isplitl [Hb]; · iexact Hb
      iexact Hv
    isplitl [Hs]; · iexact Hs
    iexact Hp
  isplitl [HO]; · iapply (owes_out m c) $$ HO
  iapply (staged_out m c)
  isplitl [Hin]; · iexact Hin
  iexact Hout

end Cert.KernelIdeal.Talk

end
-- ==== Proof.Call.lean ====
/-
  THE CALL ENTERED AND LEFT: its own semaphores opened on the way in, the record of the call as one segment of @main, and
  the segment's two ends over all the buffers of a device.
-/
module

public import proofs.«01_k».proof.Proof.Region

@[expose] public section

set_option maxRecDepth 65536

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## In and out of the invariant -/

/-- Its copy semaphores are its copy cells. -/
theorem own_sems (c : Dev nD) :
    (Pipeline.ownSems0 osem c : sProp 𝕄) = bigSep (Finset.univ : Finset Ch) fun j => semVal (cell c (some j)) 0 := rfl

/-- The device opens its thirty-two copy cells, whose counters are at zero. -/
theorem open_cells (c : Dev nD) :
    iprop(Tk m c ∗ Pipeline.ownSems0 osem c ∗ levAts L lv) ⊢ (|={Set.univ}=> Xk m c : sProp 𝕄) := by
  have hopen (K : GSem nD τ sig → ℕ) :
      iprop(invs (ins m) K ∗ bigSep (Finset.univ : Finset Ch) fun j => iprop(openTok ER (cell c (some j)) ∗ semVal (cell c (some j)) 0))
        ⊢ (|={Set.univ}=> openCells c : sProp 𝕄) := by
    unfold openCells
    refine (all_with Finset.univ (invs (ins m) K) _
      (fun j => iprop(|={Set.univ}=> (atPos ER (cell c (some j)) 0 ∅ 0 ∗ reached ER (cell c (some j)) 0))) fun j => ?_).trans (bigSep_fupd _ _)
    iintro ⟨#HI, Ho, Hv⟩
    iapply (Rounds.cell_open ER (talkRd (ins m)) (g := cell c (some j)) (Set.mem_univ (K (cell c (some j)))))
    isplitr; · iapply (inv_at (ins m) K c (some j)); iexact HI
    isplitl [Ho] <;> iassumption
  rw [own_sems]
  unfold Tk Xk ghost
  iintro ⟨⟨⟨%K, #HI, Hat, Ho, Hb, Hc⟩, Hcr⟩, Hv, #Hlev⟩
  ihave Hov := (Entails.of_eq (bigSep_sep' (Finset.univ : Finset Ch) (fun j => openTok ER (cell c (some j))) fun j =>
    (semVal (cell c (some j)) 0 : sProp 𝕄)).symm) $$ [Ho Hv]
  · isplitl [Ho] <;> iassumption
  imod (hopen K) $$ [Hov] with Hopen
  · isplitr; · iexact HI
    iexact Hov
  imodintro
  isplitl [Hat Hopen Hb Hc]
  · iexists K
    isplitr; · iexact HI
    isplitl [Hat]; · iexact Hat
    isplitl [Hopen]; · iexact Hopen
    isplitl [Hb] <;> iassumption
  isplitl [Hcr]; · iexact Hcr
  iexact Hlev

theorem held_none (c : Dev nD) (W : Valuation τ sig (Elt F)) : (StableHlo.held (c.tc : Thread nD τ) ∅ W : sProp 𝕄) = BI.emp :=
  BI.bigSep_empty

theorem call_in (c : Dev nD) :
    iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ scratch c ∗ ∃ r, prngReg c r) from rfl,
    show Pipeline.scopedRest (Pipeline.pin (pcfgs (F := F)) adm 0).spec c = (scratch c : sProp 𝕄) from scopedRest0_eq c]
  iintro ⟨Hs, Hp, -, HX⟩
  isplitl [HX]; · iexact HX
  isplitl [Hs] <;> iassumption

theorem call_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop((semVal (barCell c) 0 ∗ bigSep (Finset.univ : Finset Ch) fun j => semVal (cell c (some j)) 0)
      ∗ scratch c ∗ ∃ r, prngReg c r) from rfl,
    show Pipeline.scopedRest (Pipeline.pin (pcfgs (F := F)) adm 0).spec c = (scratch c : sProp 𝕄) from scopedRest0_eq c, held_none, own_sems]
  unfold Yk
  iintro ⟨⟨Hb, Hv⟩, Hs, Hp⟩
  isplitl [Hs]; · iexact Hs
  isplitl [Hp]; · iexact Hp
  isplitr; · iempintro
  isplitl [Hv] <;> iassumption

/-! ## Levels -/

/-- A staging semaphore is no cell of the protocol. -/
theorem which_stage : ∀ (w : Fin cfg0.W) (i : Fin (cfg0.win w).nbuf) (s : Option Ch), csem s ≠ .dma ((cfg0.win w).sem i) := by
  decide +kernel

theorem O₀_above {c : Dev nD} {g : GSem nD τ sig} {u : Unit} (h : 0 < O₀ c g u) : u ∈ L g ∧ 0 < lv g u := by
  have hbar (d : Dev nD) : u ∈ L (barCell d) ∧ 0 < lv (barCell d) u :=
    ⟨by rw [L_tc]; exact Finset.mem_singleton_self _, by rw [lv_cell]; exact Nat.one_pos⟩
  have hrecv (st : Fin 2) (d : Dev nD) (k : Fin 8) : u ∈ L (rCell st d k) ∧ 0 < lv (rCell st d k) u :=
    ⟨by rw [L_tc]; exact Finset.mem_singleton_self _, by rw [lv_cell]; show 0 < 2 + _; omega⟩
  have htally (d : Dev nD) (h : 0 < (tallyAt (barCell d) () 1 : CellTallies nD τ sig Unit) g u) : g = barCell d := by
    rw [tallyAt_apply] at h
    by_cases hg : g = barCell d ∧ u = ()
    · exact hg.1
    · rw [if_neg hg] at h; exact absurd h (Nat.lt_irrefl 0)
  have h' : 0 < dueL 1 c chunks g u + dueL 0 c chunks g u + tallyAt (barCell (peerW true c)) () 1 g u
      + tallyAt (barCell (peerW false c)) () 1 g u := h
  rcases Nat.add_pos_iff_pos_or_pos.mp h' with h' | h'
  · rcases Nat.add_pos_iff_pos_or_pos.mp h' with h' | h'
    · rcases Nat.add_pos_iff_pos_or_pos.mp h' with h' | h' <;> obtain ⟨d, k, rfl⟩ := dueL_pos h' <;> exact hrecv _ d k
    · rw [htally _ h']; exact hbar _
  · rw [htally _ h']; exact hbar _

theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact O₀_above h
  · exact absurd h (Nat.lt_irrefl 0)

/-! ## The arrays around the call -/

section
attribute [local irreducible] V₁ result

/-- The result array after the call. -/
theorem arr_out (c : Dev nD) : (dat m c).arrAt 7 cfg0.N = result (ins m) c :=
  (dat m c).arrAt_eq_of_after_last 7 t0_0 (by decide +kernel) _ fun j => congrArg (result (ins m) c)
    (funext fun a => Fin.ext rfl)

theorem V₂_out (c : Dev nD) : V₂ m c main_v39 = result (ins m) c := Function.update_self _ _ _

theorem V₂_other (c : Dev nD) (b : DevRef τ sig) (h : b ≠ main_v39) : V₂ m c b = V₁ m c b := Function.update_of_ne h _ _

theorem arr_after (c : Dev nD) : ∀ w : Fin 8, (dat m c).arrAt w cfg0.N = V₂ m c (Proc.devRef .tc (Pipeline.arrRef spec0 w))
  | 0 => ((dat m c).arrAt_in 0 rfl _).trans (V₂_other m c _ (by decide)).symm
  | 1 => ((dat m c).arrAt_in 1 rfl _).trans (V₂_other m c _ (by decide)).symm
  | 2 => ((dat m c).arrAt_in 2 rfl _).trans (V₂_other m c _ (by decide)).symm
  | 3 => ((dat m c).arrAt_in 3 rfl _).trans (V₂_other m c _ (by decide)).symm
  | 4 => ((dat m c).arrAt_in 4 rfl _).trans (V₂_other m c _ (by decide)).symm
  | 5 => ((dat m c).arrAt_in 5 rfl _).trans (V₂_other m c _ (by decide)).symm
  | 6 => ((dat m c).arrAt_in 6 rfl _).trans (V₂_other m c _ (by decide)).symm
  | 7 => (arr_out m c).trans (V₂_out m c).symm

end

/-! ## The segment -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The device's unscoped buffers, and those of them that no window of the call stages. -/
abbrev bufs : Finset (DevRef τ sig) := Pipeline.ucRefs τ sig
abbrev arrs : Finset (DevRef τ sig) := Pipeline.arrRefs (τ := τ) spec0
abbrev others : Finset (DevRef τ sig) := bufs \ arrs

theorem arrs_sub : arrs ⊆ bufs := Pipeline.arrRefs_sub_ucRefs spec0 (by decide)

theorem out_mem : (Proc.devRef .tc main_v39 : DevRef τ sig) ∈ arrs :=
  Finset.mem_map.mpr ⟨main_v39, Finset.mem_image.mpr ⟨7, Finset.mem_univ _, rfl⟩, rfl⟩

theorem V₂_others (c : Dev nD) (b : DevRef τ sig) (hb : b ∈ others \ ∅) : V₂ m c b = V₁ m c b :=
  V₂_other m c b fun h => (Finset.mem_sdiff.mp (Finset.mem_sdiff.mp hb).1).2 (h ▸ out_mem)

theorem own_facts : Pipeline.OwnSemFacts spec0 osem := by decide +kernel

variable [∀ e, Nonempty (Elt F e)]

set_option backward.isDefEq.respectTransparency.types false in
/-- The call, as a segment that talks. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) kitP rfl (fun c => (body_ok m c).loose)
    (fun _ => 0) O₀ (fun c => (owed_zero m c).trans (zero_add _).symm) (owed_last m) (fun _ => rfl) (fun c w => by unfold Dat.share; split <;> rfl)
    (V₁ m) (V₂ m) (V₂_others m)
    (Tk m) Yk (Xk m) Yk (open_cells m) (call_in m) (call_out m)
    (fun c => by iintro H; imodintro; iexact H)
    (fun _ => 0)
    ⟨fun c w s => by rw [L_tc]; exact Finset.mem_singleton_self _,
      fun c w s => by
        have hs : which (.dma ((cfg0.win w).sem s)) = none := by
          unfold which Function.partialInv
          exact dif_neg fun ⟨j, hj⟩ => which_stage w s j hj
        exact le_of_eq (congrArg lvOf hs),
      fun c t g i h => owed_above m c t g i h⟩
    (fun _ => iprop(emp))
    (fun c w => rfl) (fun c w => arr_after m c w)

/-- What a device carries from its launch to the call, beside its buffers. -/
def R (c : Dev nD) : sProp 𝕄 := iprop(Tk m c ∗ (∃ r, prngReg c r) ∗ ∃ W, owes (c : Thread nD τ) (O₀ c) W)

theorem reg_pre (c : Dev nD) : iprop(StableHlo.held (c : Thread nD τ) bufs (V₁ m c) ∗ R m c) ⊢ (reg m).pre c := by
  show _ ⊢ iprop(StableHlo.held (c.tc : Thread nD τ) arrs (V₁ m c) ∗ (∃ r, prngReg c r)
    ∗ (StableHlo.held (c.tc : Thread nD τ) others (V₁ m c) ∗ emp) ∗ Tk m c ∗ ∃ Wd, owes (c : Thread nD τ) (0 + O₀ c) Wd)
  rw [StableHlo.held_sub_split (c.tc : Thread nD τ) arrs_sub (V₁ m c), zero_add]
  unfold R
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : Dev nD) : (reg m).post c
    ⊢ iprop((StableHlo.held (c : Thread nD τ) bufs (V₂ m c) ∗ semVal (barCell c) 0)
      ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [StableHlo.held_sub_split (c.tc : Thread nD τ) arrs_sub (V₂ m c)]
  unfold Yk
  iintro ⟨Ha, -, ⟨Ho, -⟩, Hb, HO⟩
  isplitl [Ha Ho Hb]
  · isplitl [Ha Ho]
    · isplitl [Ha] <;> iassumption
    iexact Hb
  iexact HO

end Cert.KernelIdeal.Talk

end
-- ==== Proof.Launch.lean ====
/-
  THE LAUNCH: the tokens and cells that the whole machine starts with, dealt to the devices; the credits that the devices
  owe one another; and the run of @main from any memory.
-/
module

public import proofs.«01_k».proof.Proof.Call

@[expose] public section

set_option maxRecDepth 65536

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the machine -/

def barEmb : Dev nD ↪ GSem nD τ sig := ⟨fun c => barCell c, fun _ _ h => (cell_inj h).1⟩
def chEmb : Dev nD × Ch ↪ GSem nD τ sig :=
  ⟨fun p => cell p.1 (some p.2), fun _ _ h => Prod.ext (cell_inj h).1 (Option.some.inj (cell_inj h).2)⟩
def cellEmb : Dev nD × Option Ch ↪ GSem nD τ sig := ⟨fun p => cell p.1 p.2, fun _ _ h => Prod.ext (cell_inj h).1 (cell_inj h).2⟩

abbrev barCells : Finset (GSem nD τ sig) := Finset.univ.map barEmb
abbrev chCells : Finset (GSem nD τ sig) := Finset.univ.map chEmb

theorem disjoint_cells : Disjoint (barCells : Finset (GSem nD τ sig)) chCells :=
  Finset.disjoint_left.mpr fun g hb hc => by
    obtain ⟨c, -, rfl⟩ := Finset.mem_map.mp hb
    obtain ⟨p, -, hp⟩ := Finset.mem_map.mp hc
    exact Option.some_ne_none p.2 (cell_inj hp).2

theorem all_cells : (Finset.univ.map cellEmb : Finset (GSem nD τ sig)) ⊆ barCells ∪ chCells := fun g hg => by
  obtain ⟨⟨c, s⟩, -, rfl⟩ := Finset.mem_map.mp hg
  cases s with
  | none => exact Finset.mem_union_left _ (Finset.mem_map_of_mem barEmb (Finset.mem_univ c))
  | some j => exact Finset.mem_union_right _ (Finset.mem_map_of_mem chEmb (Finset.mem_univ (c, j)))

/-- Whose duty a token is for: the barrier's two, one at each copy cell. -/
def tokCell (c : Dev nD) : Bool ⊕ Ch → GSem nD τ sig × ℕ × Bool
  | .inl b => (barCell c, 0, b)
  | .inr j => (cell c (some j), 0, false)

def tokEmb : Dev nD × (Bool ⊕ Ch) ↪ GSem nD τ sig × ℕ × Bool :=
  ⟨fun p => tokCell p.1 p.2, fun p q h => by
    obtain ⟨c, s⟩ := p
    obtain ⟨d, t⟩ := q
    have hc : (tokCell c s).1 = (tokCell d t).1 := congrArg Prod.fst h
    have hb : (tokCell c s).2.2 = (tokCell d t).2.2 := congrArg (fun x => x.2.2) h
    cases s <;> cases t
    · exact Prod.ext (cell_inj hc).1 (congrArg Sum.inl hb)
    · exact absurd (cell_inj hc).2.symm (Option.some_ne_none _)
    · exact absurd (cell_inj hc).2 (Option.some_ne_none _)
    · exact Prod.ext (cell_inj hc).1 (congrArg Sum.inr (Option.some.inj (cell_inj hc).2))⟩

abbrev tokens : Finset (GSem nD τ sig × ℕ × Bool) := Finset.univ.map tokEmb

/-- The machine's element: the pipeline's, and the protocol's. -/
def u₀ : UU :=
  (initOf (Pipeline.cells (Pipeline.pin (pcfgs (F := F)) adm) cellOf_inj) (Pipeline.launchToks (Pipeline.pin (pcfgs (F := F)) adm) cellOf_inj),
    launchOf barCells chCells tokens)

/-- The protocol's element waits on one device until the launch deals it. -/
def parked (c : Dev nD) : sProp 𝕄 := if c = 0 then BI.own (ER (launchOf barCells chCells tokens)) else iprop(emp)

theorem parked_all : bigSep Finset.univ (parked (F := F)) = BI.own (ER (launchOf barCells chCells tokens)) := by
  have hrest : bigSep (Finset.univ.erase 0) (parked (F := F)) = (BI.emp : sProp 𝕄) := by
    rw [← BI.bigSep_emp_const (Finset.univ.erase (0 : Dev nD))]
    exact bigSep_congr fun c hc => if_neg (Finset.ne_of_mem_erase hc)
  rw [bigSep_univ_at _ (0 : Dev nD), hrest]
  exact (BI.equiv_iff.mp sep_emp).trans (if_pos rfl)

/-! ## The records and the tokens, dealt -/

/-- What every device may consult: each cell's invariant, and that the barriers' round is reached. -/
def records (κ : GSem nD τ sig → ℕ) : sProp 𝕄 := iprop(invs (ins m) κ ∗ bigSep Finset.univ fun c => reached ER (barCell c) 0)

instance records_persistent (κ : GSem nD τ sig → ℕ) : BI.Persistent (records m κ) := by unfold records; infer_instance

/-- The tokens for the barriers that `c` signals. -/
def sigToks (c : Dev nD) : sProp 𝕄 := bigSep (Finset.univ : Finset Bool) fun b => dutyTok ER (barCell (peerW b c)) 0 b

/-- What is `c`'s alone. -/
def linear (c : Dev nD) : sProp 𝕄 :=
  iprop(atPos ER (barCell c) 0 ∅ 0 ∗ (bigSep (Finset.univ : Finset Ch) fun j => openTok ER (cell c (some j))) ∗ sigToks c ∗ copyToks c)

theorem ghost_intro (κ : GSem nD τ sig → ℕ) (c : Dev nD) : iprop(records m κ ∗ linear c) ⊢ iprop(∃ K, ghost (ins m) K c) := by
  have hR (e : Dev nD) : (bigSep Finset.univ fun d : Dev nD => (reached ER (barCell d) 0 : sProp 𝕄)) ⊢ reached ER (barCell e) 0 :=
    bigSep_elim (Finset.mem_univ e)
  have hbar : iprop((bigSep Finset.univ fun d : Dev nD => reached ER (barCell d) 0) ∗ sigToks c) ⊢ (barToks c : sProp 𝕄) := by
    unfold sigToks barToks
    refine all_with Finset.univ _ _ _ fun b => ?_
    iintro ⟨#HR, Ht⟩
    isplitr
    · iapply (hR (peerW b c)); iexact HR
    iexact Ht
  unfold records linear ghost
  iintro ⟨⟨#HI, #HR⟩, Hat, Ho, Hs, Hc⟩
  iexists κ
  isplitr; · iexact HI
  isplitl [Hat]; · iexact Hat
  isplitl [Ho]; · iexact Ho
  isplitr [Hc]
  · iapply hbar
    isplitr; · iexact HR
    iexact Hs
  iexact Hc

/-- A family over the devices handed to partners, each member along its own axis. -/
theorem around {ι : Type} [Fintype ι] (p : ι → Bool) (Φ : ι → Dev nD → sProp 𝕄) :
    (bigSep Finset.univ fun c : Dev nD => bigSep Finset.univ fun i => Φ i c)
      = bigSep Finset.univ fun c : Dev nD => bigSep Finset.univ fun i => Φ i (peerW (p i) c) := by
  let e : Dev nD × ι ≃ Dev nD × ι := ⟨fun q => (peerW (p q.2) q.1, q.2), fun q => (peerW (p q.2) q.1, q.2),
    fun q => Prod.ext (peer_peer _ _) rfl, fun q => Prod.ext (peer_peer _ _) rfl⟩
  exact (bigSep_univ_prod fun q : Dev nD × ι => Φ q.2 q.1).symm.trans
    ((bigSep_univ_equiv e fun q : Dev nD × ι => Φ q.2 q.1).trans (bigSep_univ_prod fun q : Dev nD × ι => Φ q.2 (peerW (p q.2) q.1)))

/-- The tokens of the machine, each with the device that pays the duty. -/
theorem tokens_dealt :
    bigSep tokens (fun x => (dutyTok ER x.1 x.2.1 x.2.2 : sProp 𝕄))
      = iprop((bigSep Finset.univ fun c : Dev nD => sigToks c) ∗ bigSep Finset.univ fun c : Dev nD => copyToks c) := by
  have hdev (c : Dev nD) : bigSep Finset.univ (fun s : Bool ⊕ Ch => (dutyTok ER (tokEmb (c, s)).1 (tokEmb (c, s)).2.1 (tokEmb (c, s)).2.2 : sProp 𝕄))
      = iprop((bigSep (Finset.univ : Finset Bool) fun b => dutyTok ER (barCell c) 0 b)
        ∗ (bigSep (Finset.univ : Finset (Fin 2 × Fin 8)) fun j => dutyTok ER (sCell j.1 c j.2) 0 false)
        ∗ bigSep (Finset.univ : Finset (Fin 2 × Fin 8)) fun j => dutyTok ER (rCell j.1 c j.2) 0 false) := by
    refine (bigSep_univ_sum _).trans (congrArg (BI.sep (bigSep (Finset.univ : Finset Bool) fun b => dutyTok ER (barCell c) 0 b)) ?_)
    exact (bigSep_univ_prod _).trans (bools _)
  have hcopy : (bigSep Finset.univ fun c : Dev nD => (copyToks c : sProp 𝕄))
      = iprop((bigSep Finset.univ fun c : Dev nD => bigSep (Finset.univ : Finset (Fin 2 × Fin 8)) fun j =>
          dutyTok ER (rCell j.1 (peerW (via j.1 j.2) c) j.2) 0 false)
        ∗ bigSep Finset.univ fun c : Dev nD => bigSep (Finset.univ : Finset (Fin 2 × Fin 8)) fun j => dutyTok ER (sCell j.1 c j.2) 0 false) := by
    rw [← bigSep_sep']
    exact bigSep_congr fun c _ => bigSep_sep' _ _ _
  have hswap (A B C : sProp 𝕄) : iprop(A ∗ B ∗ C) = iprop(A ∗ C ∗ B) := by
    rw [show iprop(B ∗ C) = iprop(C ∗ B) from BI.equiv_iff.mp ⟨BI.sep_comm, BI.sep_comm⟩]
  rw [bigSep_map, bigSep_univ_prod, bigSep_congr (s := Finset.univ) fun c _ => hdev c, bigSep_sep', bigSep_sep', hswap, hcopy,
    around (fun b : Bool => b) fun b c => dutyTok ER (barCell c) 0 b,
    around (fun j : Fin 2 × Fin 8 => via j.1 j.2) fun j c => dutyTok ER (rCell j.1 c j.2) 0 false]
  rfl

/-! ## The credits -/

theorem dueL_zero {st : Fin 2} {d : Dev nD} {l : List (Fin 8)} {g : GSem nD τ sig} {u : Unit} (h : ∀ e k, g ≠ rCell st e k) :
    dueL st d l g u = 0 := by
  rcases Nat.eq_zero_or_pos (dueL st d l g u) with h0 | h0
  · exact h0
  · obtain ⟨e, k, hg⟩ := dueL_pos h0
    exact absurd hg (h e k)

theorem dueL_at (st : Fin 2) (c d : Dev nD) (k : Fin 8) : ∀ l : List (Fin 8), l.Nodup →
    dueL st d l (rCell st c k) () = if k ∈ l ∧ d = peerW (via st k) c then N else 0
  | [], _ => (if_neg fun h => List.not_mem_nil h.1).symm
  | k' :: l, hl => by
    have ih := dueL_at st c d k l (List.nodup_cons.mp hl).2
    have hk := (List.nodup_cons.mp hl).1
    have e : dueL st d (k' :: l) (rCell st c k) () = dueL st d l (rCell st c k) ()
        + tallyAt (rCell st (peerW (via st k') d) k') () N (rCell st c k) () := rfl
    rw [e, ih, tallyAt_apply]
    by_cases h : k = k'
    · subst h
      rw [if_neg fun h => hk h.1, Nat.zero_add]
      refine if_congr ?_ rfl rfl
      rw [cell_eq]
      constructor
      · rintro ⟨⟨h, -⟩, -⟩; exact ⟨List.mem_cons_self, by rw [h, peer_peer]⟩
      · rintro ⟨-, h⟩; exact ⟨⟨by rw [h, peer_peer], rfl⟩, rfl⟩
    · have hne : rCell st c k ≠ rCell st (peerW (via st k') d) k' := fun hg =>
        h (congrArg (fun j : Ch => j.2.2) (Option.some.inj (cell_inj hg).2))
      rw [if_neg (c := rCell st c k = rCell st (peerW (via st k') d) k' ∧ () = ()) fun hg => hne hg.1, Nat.add_zero]
      exact if_congr (and_congr_left' ⟨List.mem_cons_of_mem _, fun hm => (List.mem_cons.mp hm).resolve_left h⟩) rfl rfl

theorem tally_bar (c d : Dev nD) (b : Bool) :
    (tallyAt (barCell (peerW b d)) () 1 : CellTallies nD τ sig Unit) (barCell c) () = if d = peerW b c then 1 else 0 := by
  rw [tallyAt_apply]
  refine if_congr ⟨fun h => ?_, fun h => ⟨?_, rfl⟩⟩ rfl rfl
  · rw [(cell_inj h.1).1, peer_peer]
  · rw [h, peer_peer]

theorem owed_bar (c d : Dev nD) : O₀ d (barCell c) () = (if d = peerW true c then 1 else 0) + (if d = peerW false c then 1 else 0) := by
  have hne (st : Fin 2) (e : Dev nD) (k : Fin 8) : barCell c ≠ rCell st e k := fun h => Option.some_ne_none _ (cell_inj h).2.symm
  have e : O₀ d (barCell c) () = dueL 1 d chunks (barCell c) () + dueL 0 d chunks (barCell c) ()
      + tallyAt (barCell (peerW true d)) () 1 (barCell c) () + tallyAt (barCell (peerW false d)) () 1 (barCell c) () := rfl
  rw [e, dueL_zero (hne 1), dueL_zero (hne 0), tally_bar, tally_bar, Nat.zero_add]

theorem owed_recv (c d : Dev nD) (st : Fin 2) (k : Fin 8) : O₀ d (rCell st c k) () = if d = peerW (via st k) c then N else 0 := by
  have hbar (b : Bool) : (tallyAt (barCell (peerW b d)) () 1 : CellTallies nD τ sig Unit) (rCell st c k) () = 0 := by
    rw [tallyAt_apply, if_neg fun h => Option.some_ne_none _ (cell_inj h.1).2]
  have hst (st' : Fin 2) : dueL st' d chunks (rCell st c k) () = if st' = st then (if d = peerW (via st k) c then N else 0) else 0 := by
    by_cases h : st' = st
    · subst h
      rw [dueL_at _ _ _ _ _ (by decide), if_pos rfl]
      exact if_congr ⟨fun h => h.2, fun h => ⟨(by decide : ∀ k : Fin 8, k ∈ chunks) k, h⟩⟩ rfl rfl
    · rw [if_neg h]
      exact dueL_zero fun e k' hg => h (congrArg (fun j : Ch => j.2.1) (Option.some.inj (cell_inj hg).2)).symm
  have e : O₀ d (rCell st c k) () = dueL 1 d chunks (rCell st c k) () + dueL 0 d chunks (rCell st c k) ()
      + tallyAt (barCell (peerW true d)) () 1 (rCell st c k) () + tallyAt (barCell (peerW false d)) () 1 (rCell st c k) () := rfl
  rw [e, hbar, hbar, hst, hst, Nat.add_zero]
  rcases (by decide : ∀ st : Fin 2, st = 0 ∨ st = 1) st with rfl | rfl
  · rw [if_neg (by decide : ¬ (1 : Fin 2) = 0), if_pos (rfl : (0 : Fin 2) = 0), Nat.zero_add]
  · rw [if_pos (rfl : (1 : Fin 2) = 1), if_neg (by decide : ¬ (0 : Fin 2) = 1), Nat.add_zero]

/-- What the devices owe at a cell is one tally. -/
theorem credit_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem credit_bar (c : Dev nD) : ∑ d : Dev nD, O₀ d (barCell c) () = 2 := by
  rw [Finset.sum_congr rfl fun d _ => owed_bar c d, Finset.sum_add_distrib, Finset.sum_ite_eq', Finset.sum_ite_eq',
    if_pos (Finset.mem_univ _), if_pos (Finset.mem_univ _)]

theorem credit_recv (c : Dev nD) (st : Fin 2) (k : Fin 8) : ∑ d : Dev nD, O₀ d (rCell st c k) () = N := by
  rw [Finset.sum_congr rfl fun d _ => owed_recv c d st k, Finset.sum_ite_eq', if_pos (Finset.mem_univ _)]

def recvEmb : Fin 2 × Fin 8 ↪ SemLoc sig :=
  ⟨fun j => csem (some (true, j)), fun _ _ h => congrArg Prod.snd (Option.some.inj (csem_injective h))⟩

theorem creds_intro (c : Dev nD) : (Pipeline.launchCred O₀ c : sProp 𝕄) ⊢ creds c := by
  unfold Pipeline.launchCred creds
  rw [bigSep_univ_at _ (csem none), credit_at (barCell c) 2 (credit_bar c)]
  refine sep_mono_right ?_
  have hsub : (Finset.univ.map recvEmb : Finset (SemLoc sig)) ⊆ Finset.univ.erase (csem none) := fun s hs => by
    obtain ⟨j, -, rfl⟩ := Finset.mem_map.mp hs
    exact Finset.mem_erase.mpr ⟨fun h => Option.some_ne_none _ (csem_injective h), Finset.mem_univ _⟩
  refine (bigSep_subset hsub).trans ?_
  rw [bigSep_map]
  exact bigSep_mono fun j _ => Entails.of_eq (congrArg cred (credit_at (rCell j.1 c j.2) N (credit_recv c j.1 j.2)))

/-! ## What each device starts from -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- A device's own holdings, the protocol's apart. -/
def bundle (c : Dev nD) : sProp 𝕄 :=
  iprop(StableHlo.held (c : Thread nD τ) bufs (V₀ m c) ∗ creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem unscoped_eq : ∀ sm : SemLoc sig, sm.isScoped .tc = false → sm = csem none := by decide +kernel

theorem unscopedSems0_eq (c : Dev nD) : (unscopedSems0 c : sProp 𝕄) = semVal (barCell c) 0 := by
  unfold unscopedSems0
  rw [show (Finset.univ.filter fun sm : SemLoc sig => ¬ sm.isScoped .tc = true) = {csem none} from by decide +kernel, bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(bundle m c ∗ (semVal (barCell c) 0 ∗ parked c)) : sProp 𝕄) := by
    rw [show unscopedBufs c (fun b => m ((c : Thread nD τ).loc b)) = StableHlo.held (c : Thread nD τ) bufs (V₀ m c) from
      Pipeline.unscopedBufs_held c (V₀ m c), unscopedSems0_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hreach : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep chCells (fun g => (openTok ER g : sProp 𝕄))
      ⊢ bigSep Finset.univ (fun c : Dev nD => (bigSep (Finset.univ : Finset Ch) fun j => openTok ER (cell c (some j)) : sProp 𝕄)) :=
    Entails.of_eq ((bigSep_map (s := Finset.univ) chEmb (Φ := fun g : GSem nD τ sig => (openTok ER g : sProp 𝕄))).trans
      (bigSep_univ_prod _))
  have hinv (κ : GSem nD τ sig → ℕ) : bigSep (barCells ∪ chCells) (fun g => (cellInv ER (talkRd (ins m)) (κ g) g : sProp 𝕄)) ⊢ invs (ins m) κ :=
    (bigSep_subset all_cells).trans (Entails.of_eq
      (bigSep_map (s := Finset.univ) cellEmb (Φ := fun g : GSem nD τ sig => (cellInv ER (talkRd (ins m)) (κ g) g : sProp 𝕄))))
  iintro ⟨H, -⟩
  ihave H' := (all_mono Finset.univ hcore) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (parked_all (F := F))) $$ HG
  imod (Rounds.fund_launch ER (talkRd (ins m)) disjoint_cells (fun g _ h => h) tokens) $$ [Hv Hu] with ⟨%κ, -, #Hinv, #Hr, Hat, Hopen, Htok⟩
  · isplitl [Hv]
    · iapply hv $$ Hv
    · iexact Hu
  imodintro
  iapply (all_with Finset.univ (records m κ) (fun c => iprop(linear c ∗ bundle m c)) (T₀ m) fun c => T₀_intro m κ c)
  isplitr
  · unfold records
    isplitr; · iapply (hinv κ); iexact Hinv
    iapply hreach; iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (bigSep_sep' _ _ _).symm)
    iapply (Entails.of_eq (tokens_dealt (F := F))) $$ Htok
  · iexact HB

/-! ## The run -/

theorem V₂_arg0 (c : Dev nD) : V₂ m c main_arg0 = m ((c : Thread nD τ).loc main_arg0) := (V₂_other m c _ (by decide)).trans (V_main_arg0 m c)
theorem V₂_arg1 (c : Dev nD) : V₂ m c main_arg1 = m ((c : Thread nD τ).loc main_arg1) := (V₂_other m c _ (by decide)).trans (V_main_arg1 m c)
theorem V₂_arg2 (c : Dev nD) : V₂ m c main_arg2 = m ((c : Thread nD τ).loc main_arg2) := (V₂_other m c _ (by decide)).trans (V_main_arg2 m c)
theorem V₂_arg3 (c : Dev nD) : V₂ m c main_arg3 = m ((c : Thread nD τ).loc main_arg3) := (V₂_other m c _ (by decide)).trans (V_main_arg3 m c)
theorem V₂_arg4 (c : Dev nD) : V₂ m c main_arg4 = m ((c : Thread nD τ).loc main_arg4) := (V₂_other m c _ (by decide)).trans (V_main_arg4 m c)

/-- Buffers of a device that the claims speak of. -/
theorem named_bufs : ∀ b ∈ ({main_arg0, main_arg1, main_arg2, main_arg3, main_arg4, main_v39} : Finset (Ref sig .tc)),
    (Proc.devRef .tc b : DevRef τ sig) ∈ bufs := fun b hb =>
  Finset.mem_filter.mpr ⟨StableHlo.devRef_mem_tcRefs _, by revert b; decide⟩

variable [∀ e, Nonempty (Elt F e)]

/-- The host lines before the call. -/
def host : Pipeline.HostSeg (Name := ℕ) (U := UU) (pcfgs (F := F)) defs₀ 𝒱₀ L lv :=
  Pipeline.HostSeg.ofOps _ _ _ _ _ bufs hostOps0
    (fun op h => Pipeline.sub_ucRefs op (List.forall_iff_forall_mem.mp hostOps0_sub op h))
    (fun op h => List.forall_iff_forall_mem.mp hostOps0_fresh op h) (V₀ m) (R m)

def segs : List (Pipeline.Seg (pcfgs (F := F)) adm (pdats m) () defs₀ 𝒱₀ L lv) := [.host (host m), .region (reg m)]

theorem main_eq (c : Dev nD) : main (F := F) c = Pipeline.Seg.run (segs m) :=
  main_segs adm (pdats m) () 𝒱₀ L lv (host m) (reg m) rfl c

/-- A device's view of a final state. -/
def Read (c : Dev nD) (s : MemSt nD τ sig (Elt F)) : Prop :=
  (∀ b ∈ ({main_arg0, main_arg1, main_arg2, main_arg3, main_arg4, main_v39} : Finset (Ref sig .tc)),
    s.mem ((c : Thread nD τ).loc b) = V₂ m c b) ∧ s.sem (barCell c) = 0

theorem read_end (c : Dev nD) (s' : Phys nD τ sig (Elt F)) :
    iprop(Tₙ m c ∗ SI s') ⊢ (|={Set.univ}=> iprop(⌜Read m c s'.mem⌝ ∗ SI s') : sProp 𝕄) := by
  iintro ⟨⟨Hh, Hb⟩, HSI⟩
  icombine HSI Hb gives %hb
  ihave %hh := (SI_pointsTo_bufs_agree (c := c) (qs := fun _ => fullShare) (F := V₂ m c) bufs) $$ [HSI Hh]
  · isplitl [HSI]; · iexact HSI
    unfold StableHlo.held
    iexact Hh
  imodintro
  isplitr
  · ipureintro
    exact ⟨fun b hn => hh _ (named_bufs b hn), by simpa using hb⟩
  iexact HSI

set_option backward.isDefEq.respectTransparency.types false in
/-- THE RUN: from any memory with zero counters @main ends on every device, the result array holding `result`, the arguments
    unchanged and every counter at zero. -/
theorem run_main : θ_run defs (onTc (τ := τ) (main (F := F))) ⟨m, fun _ => 0, ρ⟩
    (fun r => (∀ c : Dev nD, r.2.mem ((c : Thread nD τ).loc main_v39) = result (ins m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun c => .rfl, fun c => reg_pre m c, fun c => reg_post m c⟩)
    (hinit := init m ρ)
    (QY := Read m)
    (hfin := read_end m)
    (hQ := fun s h hs => ⟨fun c => by
        have hr (b) (hb : b ∈ ({main_arg0, main_arg1, main_arg2, main_arg3, main_arg4, main_v39} : Finset (Ref sig .tc))) := (h c).1 b hb
        exact ⟨(hr main_v39 (by decide)).trans (V₂_out m c), (hr main_arg0 (by decide)).trans (V₂_arg0 m c),
          (hr main_arg1 (by decide)).trans (V₂_arg1 m c), (hr main_arg2 (by decide)).trans (V₂_arg2 m c),
          (hr main_arg3 (by decide)).trans (V₂_arg3 m c), (hr main_arg4 (by decide)).trans (V₂_arg4 m c)⟩,
      sem_eq_zero hs fun c sm hsm => by
        obtain rfl := unscoped_eq sm hsm
        exact (h c).2⟩)

end Cert.KernelIdeal.Talk

end
-- ==== Proof.Frames.lean ====
/-
  THE FRAMES: each program runs, leaves its arguments as they were and every counter at zero.
-/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 65536

noncomputable section

namespace Cert.Proof

open Idealize.ShloMosaic Idealize.ShloMosaic.TcCoe Idealize.SL.Sem

theorem frame_ideal [Cert.KernelIdeal.Facts] : Cert.quiescent_KernelIdeal := fun m ρ _ =>
  (θ_run Cert.KernelIdeal.defs _ _).mono (fun _ h => ⟨fun c => (h.1 c).2, h.2⟩) (Cert.KernelIdeal.Talk.run_main (F := Ideal) m ρ)

/-- The machine's program is the same text, read at machine floats. -/
theorem same_run [Cert.Kernel.Facts] (s : MemSt Cert.Kernel.nD Cert.Kernel.τ Cert.Kernel.sig (Elt Bits))
    (Q : PUnit × MemSt Cert.Kernel.nD Cert.Kernel.τ Cert.Kernel.sig (Elt Bits) → Prop) :
    θ_run Cert.Kernel.defs (onTc (τ := Cert.Kernel.τ) Cert.Kernel.main) s Q
      = θ_run Cert.KernelIdeal.defs (onTc (τ := Cert.KernelIdeal.τ) Cert.KernelIdeal.main) s Q := by
  sl_kernel_rfl

theorem frame_kernel [Cert.Kernel.Facts] : Cert.quiescent_Kernel := fun m ρ _ =>
  (same_run _ _).mpr ((θ_run Cert.KernelIdeal.defs _ _).mono (fun r h => ⟨fun c => (h.1 c).2, h.2⟩)
    (Cert.KernelIdeal.Talk.run_main (F := Bits) m ρ))

/-- The reference declares no semaphore. -/
theorem frame_reference [Cert.ReferenceIdeal.Facts] : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Proof

end
-- ==== Proof.Softmax.lean ====
/-
  SOFTMAX'S TWO FORMS over the extended reals: with the row's maximum taken off each score and the weights divided before
  the sum over the values, as the reference has it; and with neither, as the kernel has it.  They agree where the scores
  are reals; the values may be infinite.
-/
module

public import Idealize.ShloMosaic.PureOps.Ideal.Laws
public import Mathlib.Data.EReal.Operations
public import Mathlib.Analysis.SpecialFunctions.Exp

@[expose] public section

noncomputable section

namespace Cert.Attention

open Idealize.ShloMosaic

/-- The extended real is a real. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.neg {x : EReal} : IsReal x → IsReal (-x)
  | ⟨a, ha⟩ => ⟨-a, by rw [ha, EReal.coe_neg]⟩

theorem isReal_zero : IsReal 0 := ⟨0, EReal.coe_zero.symm⟩

theorem isReal_sum {ι : Type} (s : Finset ι) (f : ι → EReal) (h : ∀ i, IsReal (f i)) : IsReal (∑ i ∈ s, f i) :=
  Finset.sum_induction f IsReal (fun _ _ => IsReal.add) isReal_zero fun i _ => h i

theorem isReal_iff {x : EReal} : IsReal x ↔ ⊥ < x ∧ x < ⊤ := by
  constructor
  · rintro ⟨r, rfl⟩
    exact ⟨EReal.bot_lt_coe r, EReal.coe_lt_top r⟩
  · rintro ⟨h, h'⟩
    exact ⟨x.toReal, (EReal.coe_toReal h'.ne h.ne').symm⟩

/-- An extended real whose absolute value is below infinity is a real. -/
theorem isReal_of_abs_lt {x : EReal} (h : max x (-x) < ⊤) : IsReal x := by
  rw [max_lt_iff] at h
  refine isReal_iff.mpr ⟨?_, h.1⟩
  rw [bot_lt_iff_ne_bot]
  rintro rfl
  exact (lt_irrefl _ (EReal.neg_bot ▸ h.2))

/-- The greatest of some reals is a real. -/
theorem isReal_fold_max {ι : Type} (s : Finset ι) (hs : s.Nonempty) (f : ι → EReal) (h : ∀ i, IsReal (f i)) :
    IsReal (s.fold max ⊥ f) := by
  refine isReal_iff.mpr ⟨?_, ?_⟩
  · obtain ⟨i, hi⟩ := hs
    exact (Finset.lt_fold_max _).mpr (Or.inr ⟨i, hi, (isReal_iff.mp (h i)).1⟩)
  · exact (Finset.fold_max_lt _).mpr ⟨bot_lt_top, fun i _ => (isReal_iff.mp (h i)).2⟩

/-- A positive real factor goes into a sum of extended reals. -/
theorem sum_mul_pos {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih,
      EReal.right_distrib_of_nonneg_of_ne_top (EReal.coe_nonneg.mpr hc) (EReal.coe_ne_top c)]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- One row of attention over scores `s` and values `v`, as the kernel has it: (Σ eˢ v) / Σ eˢ. -/
def attend {n : ℕ} (s v : Fin n → EReal) : EReal :=
  Ideal.div (∑ t, Ideal.exp (s t) * v t) (∑ t, Ideal.exp (s t))

/-- Taking a real off each score and dividing before the sum changes nothing, if the scores are reals. -/
theorem attend_eq {n : ℕ} (hn : 0 < n) (s v : Fin n → EReal) (hs : ∀ t, IsReal (s t)) {M : EReal} (hM : IsReal M) :
    attend s v = ∑ t, v t * Ideal.div (Ideal.exp (s t - M)) (∑ u, Ideal.exp (s u - M)) := by
  choose r hr using hs
  obtain ⟨μ, rfl⟩ := hM
  obtain rfl : s = fun t => (r t : EReal) := funext hr
  have : Nonempty (Fin n) := ⟨⟨0, hn⟩⟩
  have hexp (x : ℝ) : Ideal.exp (x : EReal) = (Real.exp x : EReal) := rfl
  have hsub (x : ℝ) : (x : EReal) - (μ : EReal) = ((x - μ : ℝ) : EReal) := (EReal.coe_sub x μ).symm
  have hD : 0 < ∑ t, Real.exp (r t) := Finset.sum_pos (fun t _ => Real.exp_pos _) Finset.univ_nonempty
  have hD' : 0 < ∑ t, Real.exp (r t - μ) := Finset.sum_pos (fun t _ => Real.exp_pos _) Finset.univ_nonempty
  unfold attend
  simp only [hsub, hexp, ← coe_sum]
  rw [Ideal.div_coe hD.ne', sum_mul_pos _ _ (by positivity)]
  refine Finset.sum_congr rfl fun t _ => ?_
  rw [Ideal.div_coe hD'.ne', mul_comm ((Real.exp (r t) : ℝ) : EReal), mul_assoc, ← EReal.coe_mul, ← EReal.coe_mul]
  congr 2
  have e (x : ℝ) : Real.exp (x - μ) = Real.exp x * Real.exp (-μ) := by rw [sub_eq_add_neg, Real.exp_add]
  simp only [e, ← Finset.sum_mul]
  have := Real.exp_pos (-μ)
  field_simp

/-- A positive real factor on each left entry of a contraction is one on the contraction. -/
theorem sum_scaled {ι : Type} (s : Finset ι) (q k : ι → EReal) {c : ℝ} (hc : 0 ≤ c) :
    ∑ d ∈ s, q d * (c : EReal) * k d = (∑ d ∈ s, q d * k d) * (c : EReal) := by
  rw [sum_mul_pos _ _ hc]
  exact Finset.sum_congr rfl fun d _ => by rw [mul_assoc, mul_comm (c : EReal), mul_assoc]

end Cert.Attention
-- ==== Proof.Rotary.lean ====
/-
  ROTARY ATTENTION WITHOUT A TILING: the projections, the rotation of neighbouring lanes and one head's attention, as
  functions of plain coordinates.  Both programs are read as these.
-/
module

public import proofs.«01_k».proof.Proof.Softmax
public import Idealize.ShloMosaic.Lib.ValueIdx

@[expose] public section

noncomputable section

namespace Cert.Attention

open Idealize.ShloMosaic
open Idealize.ShloMosaic.ValueIdx

/-- Row `p` of batch `b` times column `n` of a projection's weights. -/
def proj {N : ℕ} (x : (⟨3, ![2, 256, 768]⟩ : Shape).Idx → EReal) (w : (⟨2, ![768, N]⟩ : Shape).Idx → EReal)
    (b : Fin 2) (p : Fin 256) (n : Fin N) : EReal := ∑ k : Fin 768, x (ix3 b p k) * w (ix2 k n)

/-- The rotation: an even lane takes the negative of the lane after it, an odd lane the lane before it. -/
def turn (t cs sn : Fin 64 → EReal) (d : Fin 64) : EReal :=
  t d * cs d + (if h : d.val % 2 = 0 then -t ⟨d.val + 1, by omega⟩ else t ⟨d.val - 1, by omega⟩) * sn d

/-- One head of one batch: from its three projections and the rotation's tables, row `p` and lane `d` of the attention. -/
def headOut (tq tk tv cs sn : Fin 256 → Fin 64 → EReal) (p : Fin 256) (d : Fin 64) : EReal :=
  attend (fun t => ∑ e, turn (tq p) (cs p) (sn p) e * ((1 / 8 : ℝ) : EReal) * turn (tk t) (cs t) (sn t) e) fun t => tv t d

/-- Lane `d` of head `h`, of `H` heads of 64 lanes. -/
def lane {N : ℕ} (H : ℕ) (hN : N = 64 * H) (h : Fin H) (d : Fin 64) : Fin N := ⟨64 * h.val + d.val, by omega⟩

theorem isReal_proj {N : ℕ} {x : (⟨3, ![2, 256, 768]⟩ : Shape).Idx → EReal} {w : (⟨2, ![768, N]⟩ : Shape).Idx → EReal}
    (hx : ∀ i, IsReal (x i)) (hw : ∀ i, IsReal (w i)) (b : Fin 2) (p : Fin 256) (n : Fin N) : IsReal (proj x w b p n) :=
  isReal_sum _ _ fun k => (hx _).mul (hw _)

theorem isReal_turn {t cs sn : Fin 64 → EReal} (ht : ∀ d, IsReal (t d)) (hc : ∀ d, IsReal (cs d)) (hs : ∀ d, IsReal (sn d))
    (d : Fin 64) : IsReal (turn t cs sn d) := by
  unfold turn
  split
  · exact ((ht _).mul (hc _)).add ((ht _).neg.mul (hs _))
  · exact ((ht _).mul (hc _)).add ((ht _).mul (hs _))

/-- The head as the reference has it: the scores scaled after their contraction, some real taken off each, and the weights
    divided before the sum. -/
theorem headOut_eq {tq tk tv cs sn : Fin 256 → Fin 64 → EReal} (hq : ∀ p d, IsReal (tq p d)) (hk : ∀ p d, IsReal (tk p d))
    (hc : ∀ p d, IsReal (cs p d)) (hs : ∀ p d, IsReal (sn p d)) (p : Fin 256) (d : Fin 64) (s : Fin 256 → EReal)
    (es : ∀ t, s t = (∑ e, turn (tq p) (cs p) (sn p) e * turn (tk t) (cs t) (sn t) e) * ((1 / 8 : ℝ) : EReal))
    {M : EReal} (hM : IsReal M) :
    headOut tq tk tv cs sn p d = ∑ t, tv t d * Ideal.div (Ideal.exp (s t - M)) (∑ u, Ideal.exp (s u - M)) := by
  have e (t : Fin 256) : ∑ e, turn (tq p) (cs p) (sn p) e * ((1 / 8 : ℝ) : EReal) * turn (tk t) (cs t) (sn t) e = s t := by
    rw [es, sum_scaled _ _ _ (by norm_num)]
  unfold headOut
  simp only [e]
  refine attend_eq (by norm_num) _ _ (fun t => ?_) hM
  rw [es]
  exact (isReal_sum _ _ fun e => (isReal_turn (hq p) (hc p) (hs p) e).mul (isReal_turn (hk t) (hc t) (hs t) e)).mul ⟨_, rfl⟩

/-- Every score of the row is a real. -/
theorem isReal_score {tq tk cs sn : Fin 256 → Fin 64 → EReal} (hq : ∀ p d, IsReal (tq p d)) (hk : ∀ p d, IsReal (tk p d))
    (hc : ∀ p d, IsReal (cs p d)) (hs : ∀ p d, IsReal (sn p d)) (p t : Fin 256) :
    IsReal ((∑ e, turn (tq p) (cs p) (sn p) e * turn (tk t) (cs t) (sn t) e) * ((1 / 8 : ℝ) : EReal)) :=
  (isReal_sum _ _ fun e => (isReal_turn (hq p) (hc p) (hs p) e).mul (isReal_turn (hk t) (hc t) (hs t) e)).mul ⟨_, rfl⟩

end Cert.Attention
-- ==== Proof.Kern.lean ====
/-
  WHAT A DEVICE'S SHARE HOLDS over the extended reals, at an index: the projections, the rotated queries and keys, one
  head's attention, and a chunk's product with the device's rows of the output weights.
-/
module

public import proofs.«01_k».proof.Proof.Protocol
public import proofs.«01_k».proof.Proof.Rotary
public import Idealize.ShloMosaic.Lib.MatmulPlain
public import Idealize.ShloMosaic.Lib.Pipeline.Value

@[expose] public section

set_option maxRecDepth 65536

noncomputable section

namespace Cert.Attention.Kern

open Idealize.ShloMosaic Idealize.ShloMosaic.ValueIdx
open Cert.KernelIdeal Cert.KernelIdeal.Gen Cert.KernelIdeal.Talk

/-- Row `p` of batch `b` among the 512 rows of both. -/
def row (b : Fin 2) (p : Fin 256) : Fin 512 := ⟨256 * b.val + p.val, by omega⟩

/-! ## Projections -/

theorem lit_0 : Ideal.ofBits .bf16 0x0000#16 = (0 : EReal) := by simp [Ideal.ofBits, Ideal.ieee]
theorem lit_eighth : Ideal.ofBits .bf16 0x3E00#16 = ((1 / 8 : ℝ) : EReal) := by
  simp [Ideal.ofBits, Ideal.ieee]; rw [← EReal.coe_mul]; norm_num

/-- The activations as one matrix of both batches' rows. -/
theorem rows (x : Vec Ideal S2x256x768 .bf16) (b : Fin 2) (p : Fin 256) (k : Fin 768) :
    k0_pay2 x (ix2 (row b p) k) = x (ix3 b p k) := by
  unfold k0_pay2
  rw [shapeCast_self]
  refine shapeCast_apply x _ (ix2 (row b p) k) (ix3 b p k) ?_
  rw [Shape.rowMajor_val_two, Shape.rowMajor_val_three]
  show (b.val * 256 + p.val) * 768 + k.val = (256 * b.val + p.val) * 768 + k.val
  omega

theorem projected (x : Vec Ideal S2x256x768 .bf16) (w : Vec Ideal S768x256 .bf16) (b : Fin 2) (p n : Fin 256) :
    k0_pay3 x w (ix2 (row b p) n) = proj x w b p n := by
  unfold k0_pay3
  rw [shapeCast_self]
  refine (Ideal.matmul_plain_apply none (k0_pay2 x) w _ (row b p) n).trans ?_
  refine (congrArg₂ (· + ·) Ideal.ofBits_zero_f32 (Finset.sum_congr rfl fun k _ => ?_)).trans (zero_add _)
  rw [rows]

/-! ## The rotation -/

/-- The even columns are marked. -/
theorem even (r : Fin 512) (n : Fin 256) :
    k0_pay8 cols 2#32 (ix2 r n) = if n.val % 2 = 0 then 1#1 else 0#1 := by
  have e : cols (ix2 r n) = BitVec.ofNat 32 n.val := iota_single_apply .tc S512x256 32 1 _ _
  have k (j : Fin 256) : (let v := IntOp.remsi .vector (BitVec.ofNat 32 j.val) 2#32;
      IntOp.cmpi .eq (Scalar.select (IntOp.andi (IntOp.xori (IntOp.cmpi .slt v 0#32) 0#1) (IntOp.cmpi .ne v 0#32)) (IntOp.addi v 2#32) v) 0#32)
        = if j.val % 2 = 0 then 1#1 else 0#1 := by
    revert j; decide
  rw [← k n, ← e]
  rfl

variable (t : FVec Ideal S512x256 .f32) (c s : FVec Ideal S512x256 .bf16)

/-- The lane after and the lane before, as the two rolls take them. -/
theorem after (x : FVec Ideal S512x256 .bf16) (r : Fin 512) (n : Fin 256) (hn : n.val + 1 < 256) :
    concatenate S512x256 1 [⟨S512x255, extractStridedSlice S512x255 ![0, 1] x slices_S512x256_o0_1_S512x255⟩,
      ⟨S512x1, extractStridedSlice S512x1 ![0, 0] x slices_S512x256_o0_0_S512x1⟩] concatenates_S512x255_S512x1_S512x256_d1 (ix2 r n)
      = x (ix2 r ⟨n.val + 1, hn⟩) := by
  refine (concatenate_pair_apply_left (t := S512x256) (s₁ := S512x255) (s₂ := S512x1) 1 _ _ _ _ rfl
    (ix2 r (⟨n.val, by omega⟩ : Fin 255)) fun a => ?_).trans ?_
  · match a with | ⟨0, _⟩ => rfl | ⟨1, _⟩ => rfl
  · refine extractStridedSlice_apply _ x _ _ _ fun a => ?_
    match a with
    | ⟨0, _⟩ => show r.val = 0 + r.val; omega
    | ⟨1, _⟩ => show n.val + 1 = 1 + n.val; omega

theorem before (x : FVec Ideal S512x256 .bf16) (r : Fin 512) (n : Fin 256) (hn : 0 < n.val) :
    concatenate S512x256 1 [⟨S512x1, extractStridedSlice S512x1 ![0, 255] x slices_S512x256_o0_255_S512x1⟩,
      ⟨S512x255, extractStridedSlice S512x255 ![0, 0] x slices_S512x256_o0_0_S512x255⟩] concatenates_S512x1_S512x255_S512x256_d1 (ix2 r n)
      = x (ix2 r ⟨n.val - 1, by omega⟩) := by
  refine (concatenate_pair_apply_right (t := S512x256) (s₁ := S512x1) (s₂ := S512x255) 1 _ _ _ _ rfl rfl
    (ix2 r (⟨n.val - 1, by omega⟩ : Fin 255)) (fun a ha => ?_) ?_).trans ?_
  · match a with
    | ⟨0, _⟩ => rfl
    | ⟨1, _⟩ => exact absurd rfl ha
  · show n.val - 1 + 1 = n.val; omega
  · refine extractStridedSlice_apply _ x _ _ _ fun a => ?_
    match a with
    | ⟨0, _⟩ => show r.val = 0 + r.val; omega
    | ⟨1, _⟩ => show n.val - 1 = 0 + (n.val - 1); omega

theorem pick_one {α : Type} (a b : α) : Scalar.select 1#1 a b = a := rfl
theorem pick_zero {α : Type} (a b : α) : Scalar.select 0#1 a b = b := rfl

/-- The rotated rows of head `h`. -/
theorem rotated (r : Fin 512) (h : Fin 4) (d : Fin 64) :
    k0_pay10 t c s cols 2#32 (ix2 r (lane 4 rfl h d))
      = turn (fun e => t (ix2 r (lane 4 rfl h e))) (fun e => c (ix2 r (lane 4 rfl h e))) (fun e => s (ix2 r (lane 4 rfl h e))) d := by
  unfold k0_pay10 turn
  dsimp only
  rw [addf_apply, mulf_apply, mulf_apply, select_apply, even]
  have ep : (lane (N := 256) 4 rfl h d).val % 2 = d.val % 2 := by show (64 * h.val + d.val) % 2 = _; omega
  have hd := d.isLt
  have hh := h.isLt
  rw [ep]
  refine congrArg₂ (· + ·) rfl (congrArg₂ (· * ·) ?_ rfl)
  by_cases h2 : d.val % 2 = 0
  · rw [if_pos h2, pick_one, dif_pos h2, subf_apply, after _ _ _ (by show 64 * h.val + d.val + 1 < 256; omega)]
    refine (congrArg (· - _) lit_0).trans ((zero_sub _).trans (congrArg (fun u => -t (ix2 r u)) (Fin.ext ?_)))
    show 64 * h.val + d.val + 1 = 64 * h.val + (d.val + 1)
    omega
  · rw [if_neg h2, pick_zero, dif_neg h2, before _ _ _ (by show 0 < 64 * h.val + d.val; omega)]
    refine congrArg (fun u => t (ix2 r u)) (Fin.ext ?_)
    show 64 * h.val + d.val - 1 = 64 * h.val + (d.val - 1)
    omega

/-- The queries are scaled by an eighth after their rotation. -/
theorem scaled (r : Fin 512) (n : Fin 256) :
    k0_pay9 t c s cols 2#32 (ix2 r n) = k0_pay10 t c s cols 2#32 (ix2 r n) * ((1 / 8 : ℝ) : EReal) :=
  congrArg (k0_pay10 t c s cols 2#32 (ix2 r n) * ·) lit_eighth

/-! ## One head -/

variable (i : Ins Ideal) (b : Fin 2) (h : Fin 4)

/-- A head's 64 columns of one batch's 256 rows. -/
theorem sliced {α : Type} (y : S512x256.Idx → α) (p : Fin 256) (d : Fin 64) :
    extractStridedSlice S256x64 ![256 * b.val, 64 * h.val] y (slices_head b h) (ix2 p d) = y (ix2 (row b p) (lane 4 rfl h d)) := by
  refine extractStridedSlice_apply _ y _ _ _ fun a => ?_
  match a with
  | ⟨0, _⟩ => rfl
  | ⟨1, _⟩ => rfl

/-- The device's three projections of a head, and the tables it reads for it. -/
def tq (p : Fin 256) (e : Fin 64) : EReal := proj i.x i.wq b p (lane 4 rfl h e)
def tk (p : Fin 256) (e : Fin 64) : EReal := proj i.x i.wk b p (lane 4 rfl h e)
def tv (p : Fin 256) (e : Fin 64) : EReal := proj i.x i.wv b p (lane 4 rfl h e)
def cs (p : Fin 256) (e : Fin 64) : EReal := i.cos (ix2 (row b p) (lane 4 rfl h e))
def sn (p : Fin 256) (e : Fin 64) : EReal := i.sin (ix2 (row b p) (lane 4 rfl h e))

theorem keys (p : Fin 256) (d : Fin 64) :
    key i (ix2 (row b p) (lane 4 rfl h d)) = turn (tk i b h p) (cs i b h p) (sn i b h p) d := by
  unfold key k0_pay6 k0_pay7
  rw [shapeCast_self, shapeCast_self, rotated]
  exact congrArg (fun u => turn u _ _ d) (funext fun e => projected i.x i.wk b p _)

theorem queries (p : Fin 256) (d : Fin 64) :
    qry i (ix2 (row b p) (lane 4 rfl h d)) = turn (tq i b h p) (cs i b h p) (sn i b h p) d * ((1 / 8 : ℝ) : EReal) := by
  unfold qry k0_pay6 k0_pay7
  rw [shapeCast_self, shapeCast_self, scaled, rotated]
  exact congrArg (fun u => turn u _ _ d * ((1 / 8 : ℝ) : EReal)) (funext fun e => projected i.x i.wq b p _)

theorem values (p : Fin 256) (d : Fin 64) : val i (ix2 (row b p) (lane 4 rfl h d)) = tv i b h p d :=
  projected i.x i.wv b p _

/-- The scores of a row. -/
def scores (p t : Fin 256) : EReal :=
  ∑ e, turn (tq i b h p) (cs i b h p) (sn i b h p) e * ((1 / 8 : ℝ) : EReal) * turn (tk i b h t) (cs i b h t) (sn i b h t) e

theorem exponentials (p t : Fin 256) : expo i b h (ix2 p t) = Ideal.exp (scores i b h p t) := by
  unfold expo scores
  refine congrArg Ideal.exp ?_
  refine (Ideal.matmul_transposedRhs_apply none _ _ _ p t).trans ?_
  refine (congrArg₂ (· + ·) Ideal.ofBits_zero_f32 (Finset.sum_congr rfl fun e _ => ?_)).trans (zero_add _)
  rw [sliced, sliced, queries, keys]

/-- The attention of a head. -/
theorem attended (p : Fin 256) (d : Fin 64) :
    head i b h (ix2 p d) = headOut (tq i b h) (tk i b h) (tv i b h) (cs i b h) (sn i b h) p d := by
  unfold head
  rw [divf_apply]
  refine congrArg₂ Ideal.div ?_ ?_
  · refine (Ideal.matmul_plain_apply none _ _ _ p d).trans ?_
    refine (congrArg₂ (· + ·) Ideal.ofBits_zero_f32 (Finset.sum_congr rfl fun t _ => ?_)).trans (zero_add _)
    rw [exponentials, sliced, values]
    rfl
  · refine (broadcastTo_apply _ _ _ (ix2 p (0 : Fin 1)) fun a => ?_).trans ?_
    · match a with | ⟨0, _⟩ => rfl | ⟨1, _⟩ => rfl
    refine (shapeCast_apply _ _ (ix2 p (0 : Fin 1)) (ix1 p) ?_).trans ?_
    · rw [Shape.rowMajor_val_one, Shape.rowMajor_val_two]
      show p.val = p.val * 1 + 0
      omega
    refine (Ideal.multiReduction_add_single (s := S256x256) (t := S256) (a := 1) (expo i b h) _ _ _ _ (ix1 p)).trans ?_
    refine Finset.sum_congr rfl fun t _ => ?_
    refine (congrArg (expo i b h) (?_ : _ = ix2 p t)).trans (exponentials i b h p t)
    funext a
    match a with | ⟨0, _⟩ => rfl | ⟨1, _⟩ => rfl

/-! ## A chunk -/

/-- The four heads side by side. -/
theorem joined (p j : Fin 256) :
    ctx i b (ix2 p j) = head i b ⟨j.val / 64, by omega⟩ (ix2 p ⟨j.val % 64, by omega⟩) := by
  obtain ⟨h, d, rfl⟩ : ∃ (h : Fin 4) (d : Fin 64), j = lane 4 rfl h d :=
    ⟨⟨j.val / 64, by omega⟩, ⟨j.val % 64, by omega⟩, Fin.ext (by show j.val = 64 * (j.val / 64) + j.val % 64; omega)⟩
  have hd := d.isLt
  have e1 : (⟨(lane (N := 256) 4 rfl h d).val / 64, by omega⟩ : Fin 4) = h :=
    Fin.ext (by show (64 * h.val + d.val) / 64 = h.val; omega)
  have e2 : (⟨(lane (N := 256) 4 rfl h d).val % 64, by omega⟩ : Fin 64) = d :=
    Fin.ext (by show (64 * h.val + d.val) % 64 = d.val; omega)
  rw [e1, e2]
  unfold ctx
  refine concatenate_apply_piece (t := S256x256) 1 [⟨S256x64, head i b 0⟩, ⟨S256x64, head i b 1⟩, ⟨S256x64, head i b 2⟩, ⟨S256x64, head i b 3⟩]
    concatenates_S256x64_S256x64_S256x64_S256x64_S256x256_d1 (ix2 p (lane 4 rfl h d)) h.val h.isLt S256x64 (head i b h) ?_ rfl (64 * h.val) ?_ (ix2 p d)
    (fun a ha => ?_) rfl
  · match h with | 0 => rfl | 1 => rfl | 2 => rfl | 3 => rfl
  · match h with | 0 => rfl | 1 => rfl | 2 => rfl | 3 => rfl
  · match a with
    | ⟨0, _⟩ => rfl
    | ⟨1, _⟩ => exact absurd rfl ha

/-- What the device contributes to the result's row `p` of batch `b`, column `m`: its four heads' lanes times its rows of
    the output weights. -/
def share (p : Fin 256) (m : Fin 768) : EReal :=
  ∑ j : Fin 256, headOut (tq i b ⟨j.val / 64, by omega⟩) (tk i b ⟨j.val / 64, by omega⟩) (tv i b ⟨j.val / 64, by omega⟩)
    (cs i b ⟨j.val / 64, by omega⟩) (sn i b ⟨j.val / 64, by omega⟩) p ⟨j.val % 64, by omega⟩ * i.wo (ix2 j m)

theorem chunk (k : Fin 8) (r : Fin 64) (m : Fin 768) :
    part i k (ix2 r m) = share i (batch k) ⟨64 * (k.val % 4) + r.val, by omega⟩ m := by
  unfold part share
  rw [shapeCast_self]
  refine (Ideal.matmul_plain_apply (φ₂ := .bf16) none _ _ _ r m).trans ?_
  refine (congrArg₂ (· + ·) Ideal.ofBits_zero_f32 (Finset.sum_congr rfl fun j _ => ?_)).trans (zero_add _)
  rw [← attended, ← joined]
  refine congrArg (· * _) (extractStridedSlice_apply _ _ _ _ _ fun a => ?_)
  match a with
  | ⟨0, _⟩ => rfl
  | ⟨1, _⟩ => show j.val = 0 + j.val; omega

end Cert.Attention.Kern
-- ==== Proof.Sum.lean ====
/-
  THE SUM OVER THE DEVICES: the two exchanges leave on every device, chunk by chunk, the sum of all four devices' shares.
-/
module

public import proofs.«01_k».proof.Proof.Kern
public import proofs.«01_k».proof.Proof.Split

@[expose] public section

set_option maxRecDepth 65536

noncomputable section

namespace Cert.Attention.Kern

open Idealize.ShloMosaic Idealize.ShloMosaic.ValueIdx
open Cert.KernelIdeal Cert.KernelIdeal.Gen Cert.KernelIdeal.Talk

/-- A device, its partner, its other partner and that one's partner are the four devices. -/
theorem all_four : ∀ (a : Bool) (c : Dev nD),
    Function.Bijective (![c, peerW a c, peerW (!a) c, peerW a (peerW (!a) c)] : Fin 4 → Dev nD) := by decide +kernel

theorem sum_partners (g : Dev nD → EReal) (a : Bool) (c : Dev nD) :
    (g c + g (peerW a c)) + (g (peerW (!a) c) + g (peerW a (peerW (!a) c))) = ∑ c' : Fin 4, g c' := by
  rw [← (all_four a c).sum_comp, Fin.sum_univ_four, ← add_assoc]
  rfl

theorem other_way : ∀ k : Fin 8, via 1 k = !via 0 k := by decide

/-- The result on device `c`: every device's share, summed. -/
theorem gathered (I : Dev nD → Ins Ideal) (c : Dev nD) (b : Fin 2) (p : Fin 256) (m : Fin 768) :
    result I c (ix3 b p m) = ∑ c' : Fin 4, share (I c') b p m := by
  have e (c' : Dev nD) : part (I c') (chunkOf b p) (ix2 (rowOf p) m) = share (I c') b p m := by
    have hp := p.isLt
    rw [chunk]
    refine congrArg₂ (fun u v => share (I c') u v m) (Fin.ext ?_) (Fin.ext ?_)
    · show (4 * b.val + p.val / 64) / 4 = b.val
      omega
    · show 64 * ((4 * b.val + p.val / 64) % 4) + p.val % 64 = p.val
      omega
  rw [← sum_partners (fun c' => share (I c') b p m) (via 0 (chunkOf b p)) c, ← other_way]
  simp only [← e]
  rfl

end Cert.Attention.Kern
-- ==== Proof.Reference.lean ====
/-
  WHAT THE REFERENCE COMPUTES, at an index: the projections, the rotation, one head's attention, and the product with the
  output weights, each as the plain function of coordinates.
-/
module

public import proofs.«01_k».proof.Proof.Gen.ReferenceIdeal.Read
public import proofs.«01_k».proof.Proof.Rotary

@[expose] public section

set_option maxRecDepth 65536

noncomputable section

namespace Cert.Attention.Ref

open Idealize.ShloMosaic Idealize.ShloMosaic.ValueIdx
open Cert.ReferenceIdeal Cert.ReferenceIdeal.Gen Cert.ReferenceIdeal.Read

abbrev X := (⟨S2x256x768, .f32⟩ : BufTy).Contents (Elt Ideal)
abbrev W := (⟨S768x1024, .f32⟩ : BufTy).Contents (Elt Ideal)
abbrev WO := (⟨S1024x768, .f32⟩ : BufTy).Contents (Elt Ideal)

/-- The rotation's tables, row `p` and lane `d`. -/
def cosT (p : Fin 256) (d : Fin 64) : EReal := val_main_v21 (F := Ideal) (ix2 p d)
def sinT (p : Fin 256) (d : Fin 64) : EReal := val_main_v24 (F := Ideal) (ix2 p d)

/-! ## Projections and rotation -/

/-- The projected activations with their columns split into heads. -/
theorem split_heads (x : X) (w : W) (b : Fin 2) (p : Fin 256) (h : Fin 16) (d : Fin 64) :
    val_main_v26 (F := Ideal) x w (ix4 b p h d) = proj x w b p (lane 16 rfl h d) := by
  rw [val_main_v26_apply, val_main_v25_apply]
  unfold proj
  refine Finset.sum_congr rfl fun k _ => ?_
  congr 2 <;> refine funext fun a => Fin.ext ?_
  · match a with
    | ⟨0, _⟩ => show ((((b.val * 256 + p.val) * 16 + h.val) * 64 + d.val) / 262144 = b.val); omega
    | ⟨1, _⟩ => show ((((b.val * 256 + p.val) * 16 + h.val) * 64 + d.val) / 1024 % 256 = p.val); omega
    | ⟨2, _⟩ => rfl
  · match a with
    | ⟨0, _⟩ => rfl
    | ⟨1, _⟩ => show ((((b.val * 256 + p.val) * 16 + h.val) * 64 + d.val) % 1024 = 64 * h.val + d.val); omega

/-- The same with each head's lanes in pairs. -/
theorem split_pairs (x : X) (w : W) (b : Fin 2) (p : Fin 256) (h : Fin 16) (e : Fin 32) (f : Fin 2) :
    val_main_v27 (F := Ideal) x w (ix5 b p h e f) = val_main_v26 (F := Ideal) x w (ix4 b p h ⟨2 * e.val + f.val, by omega⟩) := by
  rw [val_main_v27_apply]
  refine congrArg _ (funext fun a => Fin.ext ?_)
  match a with
  | ⟨0, _⟩ => show (((((b.val * 256 + p.val) * 16 + h.val) * 32 + e.val) * 2 + f.val) / 262144 = b.val); omega
  | ⟨1, _⟩ => show (((((b.val * 256 + p.val) * 16 + h.val) * 32 + e.val) * 2 + f.val) / 1024 % 256 = p.val); omega
  | ⟨2, _⟩ => show (((((b.val * 256 + p.val) * 16 + h.val) * 32 + e.val) * 2 + f.val) / 64 % 16 = h.val); omega
  | ⟨3, _⟩ => show (((((b.val * 256 + p.val) * 16 + h.val) * 32 + e.val) * 2 + f.val) % 64 = 2 * e.val + f.val); omega

/-- The second lane of each pair, -/
theorem second_lane (x : X) (w : W) (b : Fin 2) (p : Fin 256) (h : Fin 16) (e : Fin 32) :
    val_main_v29 (F := Ideal) x w (ix4 b p h e) = val_main_v26 (F := Ideal) x w (ix4 b p h ⟨2 * e.val + 1, by omega⟩) := by
  rw [val_main_v29_apply, val_main_v28_apply]
  refine Eq.trans (congrArg _ (funext fun a => Fin.ext ?_)) (split_pairs x w b p h e 1)
  match a with
  | ⟨0, _⟩ => show ((((b.val * 256 + p.val) * 16 + h.val) * 32 + e.val) / 131072 = b.val); omega
  | ⟨1, _⟩ => show ((((b.val * 256 + p.val) * 16 + h.val) * 32 + e.val) / 512 % 256 = p.val); omega
  | ⟨2, _⟩ => show ((((b.val * 256 + p.val) * 16 + h.val) * 32 + e.val) / 32 % 16 = h.val); omega
  | ⟨3, _⟩ => show ((((b.val * 256 + p.val) * 16 + h.val) * 32 + e.val) / 1 % 32 = e.val); omega
  | ⟨4, _⟩ => rfl

/-- and the first. -/
theorem first_lane (x : X) (w : W) (b : Fin 2) (p : Fin 256) (h : Fin 16) (e : Fin 32) :
    val_main_v32 (F := Ideal) x w (ix4 b p h e) = val_main_v26 (F := Ideal) x w (ix4 b p h ⟨2 * e.val, by omega⟩) := by
  rw [val_main_v32_apply, val_main_v31_apply]
  refine Eq.trans (congrArg _ (funext fun a => Fin.ext ?_)) (split_pairs x w b p h e 0)
  match a with
  | ⟨0, _⟩ => show ((((b.val * 256 + p.val) * 16 + h.val) * 32 + e.val) / 131072 = b.val); omega
  | ⟨1, _⟩ => show ((((b.val * 256 + p.val) * 16 + h.val) * 32 + e.val) / 512 % 256 = p.val); omega
  | ⟨2, _⟩ => show ((((b.val * 256 + p.val) * 16 + h.val) * 32 + e.val) / 32 % 16 = h.val); omega
  | ⟨3, _⟩ => show ((((b.val * 256 + p.val) * 16 + h.val) * 32 + e.val) / 1 % 32 = e.val); omega
  | ⟨4, _⟩ => rfl

/-- The turned array: the negative of the second lane, then the first. -/
theorem turned (x : X) (w : W) (b : Fin 2) (p : Fin 256) (h : Fin 16) (d : Fin 64) :
    val_main_v36 (F := Ideal) x w (ix4 b p h d)
      = if hd : d.val % 2 = 0 then -val_main_v26 (F := Ideal) x w (ix4 b p h ⟨d.val + 1, by omega⟩)
        else val_main_v26 (F := Ideal) x w (ix4 b p h ⟨d.val - 1, by omega⟩) := by
  have e36 : idx_main_v36 (ix4 b p h d) = ix5 b p h (⟨d.val / 2, by omega⟩ : Fin 32) (⟨d.val % 2, by omega⟩ : Fin 2) := by
    refine funext fun a => Fin.ext ?_
    match a with
    | ⟨0, _⟩ => show ((((b.val * 256 + p.val) * 16 + h.val) * 64 + d.val) / 262144 = b.val); omega
    | ⟨1, _⟩ => show ((((b.val * 256 + p.val) * 16 + h.val) * 64 + d.val) / 1024 % 256 = p.val); omega
    | ⟨2, _⟩ => show ((((b.val * 256 + p.val) * 16 + h.val) * 64 + d.val) / 64 % 16 = h.val); omega
    | ⟨3, _⟩ => show ((((b.val * 256 + p.val) * 16 + h.val) * 64 + d.val) / 2 % 32 = d.val / 2); omega
    | ⟨4, _⟩ => show ((((b.val * 256 + p.val) * 16 + h.val) * 64 + d.val) % 2 = d.val % 2); omega
  rw [val_main_v36_apply, e36]
  unfold val_main_v35
  split
  · rename_i hd
    refine (concatenate_pair_apply_left (t := S2x256x16x32x2) (s₁ := S2x256x16x32x1) (s₂ := S2x256x16x32x1) 4 _ _ _ _ rfl
      (ix5 b p h (⟨d.val / 2, by omega⟩ : Fin 32) (0 : Fin 1)) fun a => ?_).trans ?_
    · match a with
      | ⟨0, _⟩ => rfl
      | ⟨1, _⟩ => rfl
      | ⟨2, _⟩ => rfl
      | ⟨3, _⟩ => rfl
      | ⟨4, _⟩ => exact hd.symm
    rw [val_main_v33_apply, val_main_v30_apply]
    refine congrArg (- ·) (Eq.trans (congrArg _ (funext fun a => Fin.ext ?_)) ((second_lane x w b p h ⟨d.val / 2, by omega⟩).trans
      (congrArg (fun z => val_main_v26 (F := Ideal) x w (ix4 b p h z)) (Fin.ext ?_))))
    · match a with
      | ⟨0, _⟩ => rfl
      | ⟨1, _⟩ => rfl
      | ⟨2, _⟩ => rfl
      | ⟨3, _⟩ => rfl
    · show 2 * (d.val / 2) + 1 = d.val + 1
      omega
  · rename_i hd
    refine (concatenate_pair_apply_right (t := S2x256x16x32x2) (s₁ := S2x256x16x32x1) (s₂ := S2x256x16x32x1) 4 _ _ _ _ rfl rfl
      (ix5 b p h (⟨d.val / 2, by omega⟩ : Fin 32) (0 : Fin 1)) (fun a ha => ?_) ?_).trans ?_
    · match a with
      | ⟨0, _⟩ => rfl
      | ⟨1, _⟩ => rfl
      | ⟨2, _⟩ => rfl
      | ⟨3, _⟩ => rfl
      | ⟨4, _⟩ => exact absurd rfl ha
    · show 0 + 1 = d.val % 2
      omega
    rw [val_main_v34_apply]
    refine Eq.trans (congrArg _ (funext fun a => Fin.ext ?_)) ((first_lane x w b p h ⟨d.val / 2, by omega⟩).trans
      (congrArg (fun z => val_main_v26 (F := Ideal) x w (ix4 b p h z)) (Fin.ext ?_)))
    · match a with
      | ⟨0, _⟩ => rfl
      | ⟨1, _⟩ => rfl
      | ⟨2, _⟩ => rfl
      | ⟨3, _⟩ => rfl
    · show 2 * (d.val / 2) = d.val - 1
      omega

/-- The tables repeated over batches and heads. -/
theorem cos_rep (b : Fin 2) (p : Fin 256) (h : Fin 16) (d : Fin 64) :
    val_main_v38 (F := Ideal) (ix4 b p h d) = cosT p d := by
  rw [val_main_v38_apply, val_main_v37_apply]
  exact congrArg _ (funext fun a => Fin.ext (by match a with | ⟨0, _⟩ => rfl | ⟨1, _⟩ => rfl))
theorem sin_rep (b : Fin 2) (p : Fin 256) (h : Fin 16) (d : Fin 64) :
    val_main_v41 (F := Ideal) (ix4 b p h d) = sinT p d := by
  rw [val_main_v41_apply, val_main_v40_apply]
  exact congrArg _ (funext fun a => Fin.ext (by match a with | ⟨0, _⟩ => rfl | ⟨1, _⟩ => rfl))

/-- The queries, rotated. -/
theorem rotated (x : X) (w : W) (b : Fin 2) (p : Fin 256) (h : Fin 16) (d : Fin 64) :
    val_main_v43 (F := Ideal) x w (ix4 b p h d) = turn (fun e => proj x w b p (lane 16 rfl h e)) (cosT p) (sinT p) d := by
  rw [val_main_v43_apply, val_main_v39_apply, val_main_v42_apply, turned, cos_rep, sin_rep]
  simp only [split_heads]
  rfl

/-- The keys are rotated by the same lines. -/
theorem rotated_keys (x : X) (w : W) : val_main_v62 (F := Ideal) x w = val_main_v43 (F := Ideal) x w := rfl

/-- The values are split as the queries are. -/
theorem split_values (x : X) (w : W) : val_main_v64 (F := Ideal) x w = val_main_v26 (F := Ideal) x w := rfl

/-! ## The tables hold reals -/

theorem lit_64 : Ideal.ofBits .f32 0x42800000#32 = ((64 : ℝ) : EReal) := by
  simp [Ideal.ofBits, Ideal.ieee]; rw [← EReal.coe_mul]; norm_num
theorem lit_1e4 : Ideal.ofBits .f32 0x461C4000#32 = ((10000 : ℝ) : EReal) := by
  simp [Ideal.ofBits, Ideal.ieee]; rw [← EReal.coe_mul]; norm_num
theorem lit_1 : Ideal.ofBits .f32 0x3F800000#32 = ((1 : ℝ) : EReal) := by
  simp [Ideal.ofBits, Ideal.ieee]; rw [← EReal.coe_mul]; norm_num
theorem lit_eighth : Ideal.ofBits .f32 0x3E000000#32 = ((1 / 8 : ℝ) : EReal) := by
  simp [Ideal.ofBits, Ideal.ieee]; rw [← EReal.coe_mul]; norm_num
theorem lit_bot : Ideal.ofBits .f32 0xFF800000#32 = ⊥ := by
  simp [Ideal.ofBits, Ideal.ieee]

/-- The frequencies 1 / 10000^(2e/64) are reals, -/
theorem isReal_freq (i : S32.Idx) : IsReal (val_main_v11 (F := Ideal) i) := by
  obtain ⟨r, hr⟩ : ∃ r : ℝ, val_main_v7 (F := Ideal) i = (r : EReal) := by
    rw [val_main_v7_apply, val_main_v5_apply, val_main_v6_apply, val_main_cst_apply]
    show IsReal (Ideal.div (((BitVec.toInt _ : ℝ)) : EReal) (Ideal.ofBits .f32 0x42800000#32))
    rw [lit_64, Ideal.div_coe (by norm_num)]
    exact IsReal.mul ⟨_, rfl⟩ ⟨_, rfl⟩
  rw [val_main_v11_apply, val_main_v10_apply, val_main_cst_2_apply, val_main_v9_apply, val_main_v8_apply, val_main_cst_1_apply, hr]
  show IsReal (Ideal.div (Ideal.ofBits .f32 0x3F800000#32) (Ideal.pow (Ideal.ofBits .f32 0x461C4000#32) (r : EReal)))
  rw [lit_1, lit_1e4, Ideal.pow_coe_coe, Ideal.div_coe (show Real.rpow 10000 r ≠ 0 from (Real.rpow_pos_of_pos (by norm_num) r).ne')]
  exact IsReal.mul ⟨_, rfl⟩ ⟨_, rfl⟩

/-- so are the angles, -/
theorem isReal_angle (i : S256x32.Idx) : IsReal (val_main_v18 (F := Ideal) i) := by
  rw [val_main_v18_apply, val_main_v16_apply, val_main_v15_apply, val_main_v17_apply, val_main_v14_apply]
  exact IsReal.mul ⟨_, rfl⟩ (isReal_freq _)

/-- and their cosines and sines. -/
theorem isReal_cos (p : Fin 256) (d : Fin 64) : IsReal (cosT p d) := by
  unfold cosT
  rw [val_main_v21_apply, val_main_v20_apply, val_main_v19_apply]
  obtain ⟨r, hr⟩ := isReal_angle (idx_main_v20 (idx_main_v21 (ix2 p d)))
  rw [hr]
  exact ⟨Real.cos r, rfl⟩
theorem isReal_sin (p : Fin 256) (d : Fin 64) : IsReal (sinT p d) := by
  unfold sinT
  rw [val_main_v24_apply, val_main_v23_apply, val_main_v22_apply]
  obtain ⟨r, hr⟩ := isReal_angle (idx_main_v23 (idx_main_v24 (ix2 p d)))
  rw [hr]
  exact ⟨Real.sin r, rfl⟩

/-! ## Attention -/

/-- A score: the rotated query times the rotated key, scaled. -/
theorem score (x : X) (wq wk : W) (b : Fin 2) (h : Fin 16) (p t : Fin 256) :
    val_main_v67 (F := Ideal) x wq wk (ix4 b h p t)
      = (∑ e, turn (fun e => proj x wq b p (lane 16 rfl h e)) (cosT p) (sinT p) e
          * turn (fun e => proj x wk b t (lane 16 rfl h e)) (cosT t) (sinT t) e) * ((1 / 8 : ℝ) : EReal) := by
  rw [val_main_v67_apply, val_main_v66_apply, val_main_cst_3_apply, val_main_v65_apply, rotated_keys]
  refine congrArg₂ (· * ·) (Finset.sum_congr rfl fun e _ => ?_) lit_eighth
  refine congrArg₂ (· * ·) ((congrArg _ ?_).trans (rotated x wq b p h e)) ((congrArg _ ?_).trans (rotated x wk b t h e))
  all_goals exact funext fun a => Fin.ext (by match a with | ⟨0, _⟩ => rfl | ⟨1, _⟩ => rfl | ⟨2, _⟩ => rfl | ⟨3, _⟩ => rfl)

/-- A row's exponentials, some amount taken off each score: the row's top. -/
theorem expos (x : X) (wq wk : W) (b : Fin 2) (h : Fin 16) (p t : Fin 256) :
    val_main_v72 (F := Ideal) x wq wk (ix4 b h p t)
      = Ideal.exp (val_main_v67 (F := Ideal) x wq wk (ix4 b h p t) - val_main_v68 (F := Ideal) x wq wk (ix3 b h p)) := by
  rw [val_main_v72_apply, val_main_v71_apply, val_main_v70_apply, val_main_v69_apply]
  refine congrArg (fun u => Ideal.exp (_ - val_main_v68 (F := Ideal) x wq wk u)) ?_
  exact funext fun a => Fin.ext (by match a with | ⟨0, _⟩ => rfl | ⟨1, _⟩ => rfl | ⟨2, _⟩ => rfl)

/-- A weight: an exponential over the sum of its row's. -/
theorem weight (x : X) (wq wk : W) (b : Fin 2) (h : Fin 16) (p t : Fin 256) :
    val_main_v76 (F := Ideal) x wq wk (ix4 b h p t)
      = Ideal.div (val_main_v72 (F := Ideal) x wq wk (ix4 b h p t)) (∑ u : Fin 256, val_main_v72 (F := Ideal) x wq wk (ix4 b h p u)) := by
  rw [val_main_v76_apply, val_main_v75_apply, val_main_v74_apply, val_main_v73_apply]
  refine congrArg (Ideal.div _) ?_
  refine Eq.trans (congrArg (· + _) Ideal.ofBits_zero_f32) ((zero_add _).trans (Finset.sum_congr rfl fun u _ => congrArg _ ?_))
  exact funext fun a => Fin.ext (by match a with | ⟨0, _⟩ => rfl | ⟨1, _⟩ => rfl | ⟨2, _⟩ => rfl | ⟨3, _⟩ => rfl)

variable {x : X} {wq wk : W} (hx : ∀ i, IsReal (x i)) (hq : ∀ i, IsReal (wq i)) (hk : ∀ i, IsReal (wk i))

include hx hq hk

theorem isReal_scores (i : S2x16x256x256.Idx) : IsReal (val_main_v67 (F := Ideal) x wq wk i) := by
  obtain ⟨b, h, p, t, rfl⟩ : ∃ b h p t, i = ix4 b h p t := ⟨_, _, _, _, eq_ix4 i⟩
  rw [score x wq wk b h p t]
  exact isReal_score (tq := fun p e => proj x wq b p (lane 16 rfl h e)) (tk := fun p e => proj x wk b p (lane 16 rfl h e))
    (cs := cosT) (sn := sinT) (fun p d => isReal_proj hx hq _ _ _) (fun p d => isReal_proj hx hk _ _ _) isReal_cos isReal_sin p t

/-- The greatest score of a row is a real. -/
theorem isReal_top (i : S2x16x256.Idx) : IsReal (val_main_v68 (F := Ideal) x wq wk i) := by
  unfold val_main_v68
  rw [Host.reduce_eq_fold]
  have e0 : val_main_cst_4 (F := Ideal) (Shape.Idx.first h_S_) = (⊥ : EReal) := lit_bot
  rw [e0]
  refine isReal_fold_max _ ?_ _ (isReal_scores hx hq hk)
  obtain ⟨b, h, p, rfl⟩ : ∃ b h p, i = ix3 b h p := ⟨_, _, _, eq_ix3 i⟩
  refine ⟨ix4 b h p (0 : Fin 256), Finset.mem_filter.mpr ⟨Finset.mem_univ _, funext fun a => Fin.ext ?_⟩⟩
  match a with
  | ⟨0, _⟩ => rfl
  | ⟨1, _⟩ => rfl
  | ⟨2, _⟩ => rfl

/-- The attention of head `h`, at row `p` and lane `d`. -/
theorem attention (wv : W) (b : Fin 2) (p : Fin 256) (h : Fin 16) (d : Fin 64) :
    val_main_v78 (F := Ideal) x wq wk wv (ix4 b p h d)
      = headOut (fun p e => proj x wq b p (lane 16 rfl h e)) (fun p e => proj x wk b p (lane 16 rfl h e))
          (fun p e => proj x wv b p (lane 16 rfl h e)) cosT sinT p d := by
  rw [headOut_eq (tq := fun p e => proj x wq b p (lane 16 rfl h e)) (tk := fun p e => proj x wk b p (lane 16 rfl h e))
    (tv := fun p e => proj x wv b p (lane 16 rfl h e)) (cs := cosT) (sn := sinT) (fun p d => isReal_proj hx hq _ _ _) (fun p d => isReal_proj hx hk _ _ _) isReal_cos isReal_sin p d
    (fun t => val_main_v67 (F := Ideal) x wq wk (ix4 b h p t)) (fun t => score x wq wk b h p t)
    (isReal_top hx hq hk (ix3 b h p)), val_main_v78_apply, val_main_v77_apply]
  refine Finset.sum_congr rfl fun t _ => congrArg₂ (· * ·) ?_ ?_
  · rw [split_values, ← split_heads x wv b t h d]
    exact congrArg _ (funext fun a => Fin.ext (by match a with | ⟨0, _⟩ => rfl | ⟨1, _⟩ => rfl | ⟨2, _⟩ => rfl | ⟨3, _⟩ => rfl))
  · rw [← expos, show (fun u => Ideal.exp (val_main_v67 (F := Ideal) x wq wk (ix4 b h p u) - val_main_v68 (F := Ideal) x wq wk (ix3 b h p)))
      = fun u => val_main_v72 (F := Ideal) x wq wk (ix4 b h p u) from funext fun u => (expos x wq wk b h p u).symm, ← weight]
    exact congrArg _ (funext fun a => Fin.ext (by match a with | ⟨0, _⟩ => rfl | ⟨1, _⟩ => rfl | ⟨2, _⟩ => rfl | ⟨3, _⟩ => rfl))

/-- The result: the heads' lanes, in order, times the output weights. -/
theorem output (wv : W) (wo : WO) (b : Fin 2) (p : Fin 256) (m : Fin 768) :
    val_main_v80 (F := Ideal) x wq wk wv wo (ix3 b p m)
      = ∑ n : Fin 1024, headOut (fun p e => proj x wq b p (lane 16 rfl ⟨n.val / 64, by omega⟩ e))
          (fun p e => proj x wk b p (lane 16 rfl ⟨n.val / 64, by omega⟩ e))
          (fun p e => proj x wv b p (lane 16 rfl ⟨n.val / 64, by omega⟩ e)) cosT sinT p ⟨n.val % 64, by omega⟩ * wo (ix2 n m) := by
  rw [val_main_v80_apply]
  refine Finset.sum_congr rfl fun n _ => congrArg₂ (· * ·) ?_ (congrArg _ ?_)
  · rw [← attention hx hq hk wv b p ⟨n.val / 64, by omega⟩ ⟨n.val % 64, by omega⟩, val_main_v79_apply]
    refine congrArg _ (funext fun a => Fin.ext ?_)
    have hb := b.isLt; have hp := p.isLt; have hn := n.isLt
    match a with
    | ⟨0, _⟩ => show ((b.val * 256 + p.val) * 1024 + n.val) / 262144 = b.val; omega
    | ⟨1, _⟩ => show ((b.val * 256 + p.val) * 1024 + n.val) / 1024 % 256 = p.val; omega
    | ⟨2, _⟩ => show ((b.val * 256 + p.val) * 1024 + n.val) / 64 % 16 = n.val / 64; omega
    | ⟨3, _⟩ => show ((b.val * 256 + p.val) * 1024 + n.val) % 64 = n.val % 64; omega
  · exact funext fun a => Fin.ext (by match a with | ⟨0, _⟩ => rfl | ⟨1, _⟩ => rfl)

end Cert.Attention.Ref
-- ==== Proof.Operands.lean ====
/-
  WHAT THE CALL'S OPERANDS HOLD: over the extended reals the host's casts are the identity, so five of them are the
  device's arguments; the other two are the rotation's tables, each row of 64 lanes repeated for both batches and all four
  heads.
-/
module

public import proofs.«01_k».proof.Proof.Sum
public import proofs.«01_k».proof.Proof.Region
public import proofs.«01_k».proof.Proof.Reference

@[expose] public section

set_option maxRecDepth 65536

noncomputable section

namespace Cert.Attention.Kern

open Idealize.ShloMosaic hiding ix1 ix2 ix3 ix4
open Idealize.ShloMosaic.ValueIdx
open Idealize.ShloMosaic.TcCoe
open Cert.KernelIdeal Cert.KernelIdeal.Gen Cert.KernelIdeal.Talk

variable (m : (ℓ : Loc nD τ sig) → Buf (Elt Ideal) ℓ) (c : Dev nD)

theorem ins_x : (ins m c).x = m ((c : Thread nD τ).loc main_arg0) := by
  unfold ins V₁ V₀
  dsimp only
  sl_kernel_rfl

theorem ins_wq : (ins m c).wq = m ((c : Thread nD τ).loc main_arg1) := by
  unfold ins V₁ V₀
  dsimp only
  sl_kernel_rfl

theorem ins_wk : (ins m c).wk = m ((c : Thread nD τ).loc main_arg2) := by
  unfold ins V₁ V₀
  dsimp only
  sl_kernel_rfl

theorem ins_wv : (ins m c).wv = m ((c : Thread nD τ).loc main_arg3) := by
  unfold ins V₁ V₀
  dsimp only
  sl_kernel_rfl

theorem ins_wo : (ins m c).wo = m ((c : Thread nD τ).loc main_arg4) := by
  unfold ins V₁ V₀
  dsimp only
  sl_kernel_rfl

/-- A table of 256 rows and 64 lanes, repeated for both batches and all four heads. -/
def spread (y : FVec Ideal S256x64 .f32) : FVec Ideal S512x256 .f32 :=
  shapeCast S512x256 (broadcastInDim S2x256x4x64 ![0, 1, 2, 3] bcast_S1x256x1x64_S2x256x4x64_0_1_2_3
    (shapeCast S1x256x1x64 y shapeCasts_S256x64_S1x256x1x64)) shapeCasts_S2x256x4x64_S512x256

theorem ins_cos : (ins m c).cos = spread (Cert.ReferenceIdeal.Read.val_main_v21 (F := Ideal)) := by
  unfold ins V₁ V₀
  dsimp only
  sl_kernel_rfl

theorem ins_sin : (ins m c).sin = spread (Cert.ReferenceIdeal.Read.val_main_v24 (F := Ideal)) := by
  unfold ins V₁ V₀
  dsimp only
  sl_kernel_rfl

/-- Row `p` of either batch and lane `e` of any head hold the table's row `p`, lane `e`. -/
theorem spread_apply (y : FVec Ideal S256x64 .f32) (b : Fin 2) (p : Fin 256) (h : Fin 4) (e : Fin 64) :
    spread y (ix2 (row b p) (lane 4 rfl h e)) = y (ix2 p e) := by
  unfold spread
  refine (shapeCast_apply _ _ (ix2 (row b p) (lane 4 rfl h e)) (ix4 b p h e) ?_).trans ?_
  · rw [Shape.rowMajor_val_two, Shape.rowMajor_val_four]
    show ((b.val * 256 + p.val) * 4 + h.val) * 64 + e.val = (256 * b.val + p.val) * 256 + (64 * h.val + e.val)
    omega
  refine (broadcastInDim_apply _ _ _ (ix4 b p h e) (ix4 (0 : Fin 1) p (0 : Fin 1) e) fun a => ?_).trans ?_
  · match a with | ⟨0, _⟩ => rfl | ⟨1, _⟩ => rfl | ⟨2, _⟩ => rfl | ⟨3, _⟩ => rfl
  refine shapeCast_apply _ _ (ix4 (0 : Fin 1) p (0 : Fin 1) e) (ix2 p e) ?_
  rw [Shape.rowMajor_val_two, Shape.rowMajor_val_four]
  show p.val * 64 + e.val = ((0 * 256 + p.val) * 1 + 0) * 64 + e.val
  omega

theorem cs_eq (b : Fin 2) (h : Fin 4) : cs (ins m c) b h = Ref.cosT :=
  funext fun p => funext fun e => (congrFun (ins_cos m c) _).trans (spread_apply _ b p h e)
theorem sn_eq (b : Fin 2) (h : Fin 4) : sn (ins m c) b h = Ref.sinT :=
  funext fun p => funext fun e => (congrFun (ins_sin m c) _).trans (spread_apply _ b p h e)

end Cert.Attention.Kern
-- ==== Proof.Equation.lean ====
/-
  THE EQUATION: what the exchanges leave on every device is the reference's result, the device's operands being its blocks
  of the whole arrays and the activations and the query and key weights holding reals.
-/
module

public import proofs.«01_k».proof.Proof.Operands
public import Idealize.ShloMosaic.Lib.Layout

@[expose] public section

set_option maxRecDepth 65536

noncomputable section

namespace Cert.Attention.Kern

open Idealize.ShloMosaic hiding ix1 ix2 ix3 ix4 eq_ix2 eq_ix3
open Idealize.ShloMosaic.ValueIdx
open Cert.KernelIdeal Cert.KernelIdeal.Gen Cert.KernelIdeal.Talk

/-! ## Blocks -/

/-- Number `j` of block `c`, of four blocks of 256. -/
def at4 (c : Fin 4) (j : Fin 256) : Fin 1024 := ⟨256 * c.val + j.val, by omega⟩

theorem at4_surj (n : Fin 1024) : ∃ c j, n = at4 c j :=
  ⟨⟨n.val / 256, by omega⟩, ⟨n.val % 256, by omega⟩, Fin.ext (by show n.val = 256 * (n.val / 256) + n.val % 256; omega)⟩

/-- Four sums of 256 terms are the sum of all 1024. -/
theorem sum_blocks (f : Fin 1024 → EReal) : ∑ n, f n = ∑ c : Fin 4, ∑ j : Fin 256, f (at4 c j) := by
  rw [← Equiv.sum_comp (finProdFinEquiv (m := 4) (n := 256)) f, Fintype.sum_prod_type]
  refine Finset.sum_congr rfl fun c _ => Finset.sum_congr rfl fun j _ => congrArg f (Fin.ext ?_)
  show j.val + 256 * c.val = 256 * c.val + j.val
  omega

/-- Device `c`'s columns of a projection's weights, -/
abbrev colsOf (c : Fin 4) (w : Ref.W) : (⟨2, ![768, 256]⟩ : Shape).Idx → EReal :=
  Layout.block ⟨2, ![768, 256]⟩ ⟨2, ![768, 1024]⟩ 1 4 c w
/-- and its rows of the output weights. -/
abbrev rowsOf (c : Fin 4) (w : Ref.WO) : (⟨2, ![256, 768]⟩ : Shape).Idx → EReal :=
  Layout.block ⟨2, ![256, 768]⟩ ⟨2, ![1024, 768]⟩ 0 4 c w

theorem block_cols (w : Ref.W) (c : Fin 4) (k : Fin 768) (j : Fin 256) :
    colsOf c w (ix2 k j) = w (ix2 k (at4 c j)) := by
  refine (Layout.block_apply c w (by decide) _).trans ?_
  refine congrArg w (funext fun a => Fin.ext ?_)
  match a with
  | ⟨0, _⟩ => rfl
  | ⟨1, _⟩ => show c.val * 256 + j.val = 256 * c.val + j.val; omega

theorem block_rows (w : Ref.WO) (c : Fin 4) (j : Fin 256) (n : Fin 768) :
    rowsOf c w (ix2 j n) = w (ix2 (at4 c j) n) := by
  refine (Layout.block_apply c w (by decide) _).trans ?_
  refine congrArg w (funext fun a => Fin.ext ?_)
  match a with
  | ⟨0, _⟩ => show c.val * 256 + j.val = 256 * c.val + j.val; omega
  | ⟨1, _⟩ => rfl

/-- A weight matrix all of whose blocks hold reals holds reals. -/
theorem isReal_of_blocks (w : Ref.W)
    (h : ∀ (c : Fin 4) i, IsReal (colsOf c w i)) (i) : IsReal (w i) := by
  obtain ⟨k, n, rfl⟩ : ∃ k n, i = ix2 k n := ⟨_, _, eq_ix2 i⟩
  obtain ⟨c, j, rfl⟩ := at4_surj n
  rw [← block_cols w c k j]
  exact h c _

/-- A device's projection of its head `h` is the whole projection of head `4 c + h`. -/
theorem proj_block (x : Ref.X) (w : Ref.W) (c : Fin 4) (b : Fin 2) (j : Fin 256) :
    (fun (p : Fin 256) (e : Fin 64) => proj x (colsOf c w) b p
        (lane (N := 256) 4 rfl ⟨j.val / 64, by omega⟩ e))
      = fun p e => proj x w b p (lane (N := 1024) 16 rfl ⟨(at4 c j).val / 64, by omega⟩ e) := by
  funext p e
  unfold proj
  refine Finset.sum_congr rfl fun k _ => ?_
  rw [block_cols]
  refine congrArg (fun n => x (ix3 b p k) * w (ix2 k n)) (Fin.ext ?_)
  show 256 * c.val + (64 * (j.val / 64) + e.val) = 64 * ((256 * c.val + j.val) / 64) + e.val
  omega

/-! ## The equation -/

variable (x : Ref.X) (wq wk wv : Ref.W) (wo : Ref.WO)

/-- The whole result is the sum of the devices' shares. -/
theorem result_eq (hx : ∀ i, IsReal (x i)) (hq : ∀ i, IsReal (wq i)) (hk : ∀ i, IsReal (wk i)) (I : Dev nD → Ins Ideal)
    (ex : ∀ c, (I c).x = x)
    (eq : ∀ c, (I c).wq = colsOf c wq)
    (ek : ∀ c, (I c).wk = colsOf c wk)
    (ev : ∀ c, (I c).wv = colsOf c wv)
    (eo : ∀ c, (I c).wo = rowsOf c wo)
    (ec : ∀ c b h, cs (I c) b h = Ref.cosT) (es : ∀ c b h, sn (I c) b h = Ref.sinT) (c : Dev nD) :
    result I c = Cert.ReferenceIdeal.Read.val_main_v80 (F := Ideal) x wq wk wv wo := by
  funext i
  obtain ⟨b, p, n, rfl⟩ : ∃ b p n, i = ix3 b p n := ⟨_, _, _, eq_ix3 i⟩
  rw [gathered, Ref.output hx hq hk wv wo b p n, sum_blocks]
  refine Finset.sum_congr rfl fun c' _ => Finset.sum_congr rfl fun j _ => ?_
  have e1 : tq (I c') b ⟨j.val / 64, by omega⟩ = fun p e => proj x wq b p (lane 16 rfl ⟨(at4 c' j).val / 64, by omega⟩ e) := by
    rw [← proj_block, ← eq, ← ex c']; rfl
  have e2 : tk (I c') b ⟨j.val / 64, by omega⟩ = fun p e => proj x wk b p (lane 16 rfl ⟨(at4 c' j).val / 64, by omega⟩ e) := by
    rw [← proj_block, ← ek, ← ex c']; rfl
  have e3 : tv (I c') b ⟨j.val / 64, by omega⟩ = fun p e => proj x wv b p (lane 16 rfl ⟨(at4 c' j).val / 64, by omega⟩ e) := by
    rw [← proj_block, ← ev, ← ex c']; rfl
  have e4 : (⟨j.val % 64, by omega⟩ : Fin 64) = ⟨(at4 c' j).val % 64, by omega⟩ :=
    Fin.ext (by show j.val % 64 = (256 * c'.val + j.val) % 64; omega)
  rw [e1, e2, e3, ec, es, e4, eo, block_rows]

end Cert.Attention.Kern
-- ==== Proof.Finite.lean ====
/-
  WHAT THE PRECONDITION SAYS: on every device, each entry of the activations and of the device's columns of the query and
  key weights is a real.
-/
module

public import proofs.«01_k».proof.Pre_finite_KernelIdeal
public import proofs.«01_k».proof.Pre_finite_ReferenceIdeal
public import proofs.«01_k».proof.Proof.Softmax
public import Idealize.ShloMosaic.Lib.ReduceAll
public import Idealize.ShloMosaic.Lib.ValueIdx

@[expose] public section

noncomputable section

namespace Cert.Attention

open Idealize.ShloMosaic

/-- The side conditions of the precondition's operations, on the kernel's blocks -/
theorem facts_blocks : Cert.Pre_finite_KernelIdeal.Facts :=
  ⟨by decide, by decide, by decide, by decide, by decide⟩
/-- and on the whole arrays. -/
theorem facts_whole : Cert.Pre_finite_ReferenceIdeal.Facts :=
  ⟨by decide, by decide, by decide, by decide, by decide⟩

theorem lit_top : Ideal.ofBits .f32 0x7F800000#32 = ⊤ := by
  simp [Ideal.ofBits, Ideal.ieee]

/-- An entry whose absolute value compares below +∞ is a real. -/
theorem isReal_of_cmp (u : EReal) (h : Ideal.cmp .olt (max u (-u)) (Ideal.ofBits .f32 0x7F800000#32) = 1#1) : IsReal u := by
  rw [lit_top] at h
  refine isReal_of_abs_lt ?_
  by_contra hc
  simp [Ideal.cmp, hc] at h

theorem and_one : ∀ {a b : BitVec 1}, IntOp.andi a b = 1#1 → a = 1#1 ∧ b = 1#1 := by decide

open Cert.Pre_finite_KernelIdeal in
theorem finite_iff [Facts] (x : FVec Ideal S2x256x768 .f32) (wq wk wv : FVec Ideal S768x256 .f32) (wo : FVec Ideal S256x768 .f32)
    (h : fn x wq wk wv wo = fun _ => 1#1) : (∀ i, IsReal (x i)) ∧ (∀ i, IsReal (wq i)) ∧ ∀ i, IsReal (wk i) := by
  have h0 := congrFun h (Shape.Idx.first Facts.h_S_)
  obtain ⟨h12, h3⟩ := and_one h0
  obtain ⟨h1, h2⟩ := and_one h12
  have : Subsingleton S_.Idx := ⟨fun a b => funext fun i => i.elim0⟩
  exact ⟨fun i => isReal_of_cmp _ (Host.reduce_andi_all _ _ _ _ _ h1 i), fun i => isReal_of_cmp _ (Host.reduce_andi_all _ _ _ _ _ h2 i),
    fun i => isReal_of_cmp _ (Host.reduce_andi_all _ _ _ _ _ h3 i)⟩

end Cert.Attention
-- ==== Proof.Algebraic.lean ====
/-
  THE VALUE CLAIM: over the extended reals every device ends with the reference's whole result.
-/
module

public import proofs.«01_k».proof.Defs
public import proofs.«01_k».proof.Proof.Equation
public import proofs.«01_k».proof.Proof.Finite
public import proofs.«01_k».proof.Proof.Launch
public import proofs.«01_k».proof.Proof.Gen.ReferenceIdeal.Run

@[expose] public section

set_option maxRecDepth 65536

noncomputable section

namespace Cert.Proof

open Idealize.ShloMosaic Idealize.ShloMosaic.TcCoe Idealize.SL.Sem
open Cert.Attention Cert.Attention.Kern Cert.KernelIdeal.Talk

/-- What both programs end with: the reference's result of the whole arrays. -/
abbrev whole_result (m' : (ℓ : Loc Cert.ReferenceIdeal.nD Cert.ReferenceIdeal.τ Cert.ReferenceIdeal.sig) → Buf (Elt Ideal) ℓ) :=
  Cert.ReferenceIdeal.Value.res_main_v80 (F := Ideal) m' 0

theorem algebraic [Cert.KernelIdeal.Facts] [Cert.ReferenceIdeal.Facts] [Cert.Pre_finite_KernelIdeal.Facts] :
    Cert.algebraic_KernelIdeal_ReferenceIdeal_pre_finite_KernelIdeal := by
  intro m g m' g' hpre hm
  have hf c := finite_iff _ _ _ _ _ (hpre c)
  have hx := (hm 0).1 ▸ (hf 0).1
  have hq := isReal_of_blocks _ fun c => (hm c).2.1 ▸ (hf c).2.1
  have hk := isReal_of_blocks _ fun c => (hm c).2.2.1 ▸ (hf c).2.2
  have e (c : Dev Cert.KernelIdeal.nD) : result (ins m) c = whole_result m' :=
    (result_eq _ _ _ _ _ hx hq hk (ins m) (fun c => (ins_x m c).trans (hm c).1) (fun c => (ins_wq m c).trans (hm c).2.1)
      (fun c => (ins_wk m c).trans (hm c).2.2.1) (fun c => (ins_wv m c).trans (hm c).2.2.2.1)
      (fun c => (ins_wo m c).trans (hm c).2.2.2.2) (cs_eq m) (sn_eq m) c).trans
      (Cert.ReferenceIdeal.Read.val_main_v80_eq m' 0).symm
  exact ⟨whole_result m',
    (θ_run Cert.KernelIdeal.defs _ _).mono (fun _ h c => ⟨(h.1 c).1.trans (e c), (h.1 c).2⟩) (run_main (F := Ideal) m g),
    (θ_run Cert.ReferenceIdeal.defs _ _).mono (fun _ h => h 0) (Cert.ReferenceIdeal.Value.run m' g')⟩

end Cert.Proof

end
-- ==== Proof.lean ====
/-
  The certificate: the programs' side conditions, and what is claimed of them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic

@[expose] public section

namespace Cert.Proof

theorem claim : Cert.Claim :=
  letI := Cert.Kernel.Gen.facts
  letI := Cert.KernelIdeal.Gen.facts
  letI := Cert.ReferenceIdeal.Gen.facts
  letI := Cert.Attention.facts_blocks
  letI := Cert.Attention.facts_whole
  ⟨Cert.Kernel.Gen.facts, Cert.KernelIdeal.Gen.facts, Cert.ReferenceIdeal.Gen.facts,
    Cert.Attention.facts_blocks, Cert.Attention.facts_whole,
    frame_kernel, frame_ideal, fun m g _ => frame_ideal m g trivial,
    frame_reference, fun m g _ => frame_reference m g trivial, trivial, algebraic⟩

end Cert.Proof
